-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v2_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x3072x1664 : Shape := ⟨3, ![2, 3072, 1664]⟩
abbrev S1664x27648 : Shape := ⟨2, ![1664, 27648]⟩
abbrev S_ : Shape := ⟨0, ![]⟩

class Facts : Prop where
  bcast_S_S2x3072x1664 : S_.BroadcastsInDim S2x3072x1664 (![] : Fin 0 → Fin S2x3072x1664.rank)
  bcast_S_S1664x27648 : S_.BroadcastsInDim S1664x27648 (![] : Fin 0 → Fin S1664x27648.rank)

variable [Facts]

def fn {F : FTy → Type} [FloatOps F] (main_arg0 : FVec F S2x3072x1664 .bf16) (main_arg1 : FVec F S1664x27648 .bf16) : IVec S2x3072x1664 1 × IVec S1664x27648 1 :=
  let main_v0 : FVec F S2x3072x1664 .bf16 := Host.absf main_arg0
  let main_cst : FVec F S_ .bf16 := constant S_ .bf16 0x7F7F#16
  let main_v1 : FVec F S2x3072x1664 .bf16 := broadcastInDim S2x3072x1664 ![] bcast_S_S2x3072x1664 main_cst
  let main_v2 : IVec S2x3072x1664 1 := cmpf .ole main_v0 main_v1
  let main_cst_0 : FVec F S_ .bf16 := constant S_ .bf16 0x7F80#16
  let main_v3 : FVec F S2x3072x1664 .bf16 := broadcastInDim S2x3072x1664 ![] bcast_S_S2x3072x1664 main_cst_0
  let main_v4 : IVec S2x3072x1664 1 := cmpf .oeq main_v0 main_v3
  let main_v5 : IVec S2x3072x1664 1 := ori main_v2 main_v4
  let main_v6 : FVec F S1664x27648 .bf16 := Host.absf main_arg1
  let main_cst_1 : FVec F S_ .bf16 := constant S_ .bf16 0x7F7F#16
  let main_v7 : FVec F S1664x27648 .bf16 := broadcastInDim S1664x27648 ![] bcast_S_S1664x27648 main_cst_1
  let main_v8 : IVec S1664x27648 1 := cmpf .ole main_v6 main_v7
  let main_cst_2 : FVec F S_ .bf16 := constant S_ .bf16 0x7F80#16
  let main_v9 : FVec F S1664x27648 .bf16 := broadcastInDim S1664x27648 ![] bcast_S_S1664x27648 main_cst_2
  let main_v10 : IVec S1664x27648 1 := cmpf .oeq main_v6 main_v9
  let main_v11 : IVec S1664x27648 1 := ori main_v8 main_v10
  (main_v5, main_v11)
-- ==== Kernel.lean ====
abbrev S2x3072x1664 : Shape := ⟨3, ![2, 3072, 1664]⟩
abbrev S1664x27648 : Shape := ⟨2, ![1664, 27648]⟩
abbrev S6144x1664 : Shape := ⟨2, ![6144, 1664]⟩
abbrev S6144x13 : Shape := ⟨2, ![6144, 13]⟩
abbrev S6144x1536 : Shape := ⟨2, ![6144, 1536]⟩
abbrev S6144x128 : Shape := ⟨2, ![6144, 128]⟩
abbrev S512x1664 : Shape := ⟨2, ![512, 1664]⟩
abbrev S512x13 : Shape := ⟨2, ![512, 13]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩
abbrev S6144x27648 : Shape := ⟨2, ![6144, 27648]⟩
abbrev S13x27648 : Shape := ⟨2, ![13, 27648]⟩
abbrev S1536x1536 : Shape := ⟨2, ![1536, 1536]⟩
abbrev S1536x128 : Shape := ⟨2, ![1536, 128]⟩
abbrev S1664x512 : Shape := ⟨2, ![1664, 512]⟩
abbrev S1536x512 : Shape := ⟨2, ![1536, 512]⟩
abbrev S13x512 : Shape := ⟨2, ![13, 512]⟩
abbrev S1x512 : Shape := ⟨2, ![1, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S256x1536 : Shape := ⟨2, ![256, 1536]⟩
abbrev S256x512 : Shape := ⟨2, ![256, 512]⟩
abbrev S256x128 : Shape := ⟨2, ![256, 128]⟩
abbrev S2x3072x27648 : Shape := ⟨3, ![2, 3072, 27648]⟩
abbrev S2x3072x13 : Shape := ⟨3, ![2, 3072, 13]⟩

abbrev nBuf : Space → Nat
  | .hbm => 13
  | .vmem => 26
  | .smem => 0
  | _ => 0

abbrev bufTy : (tb : Table) → Fin (tcTables nBuf tb) → BufTy
  | .hbm, ⟨0, _⟩ => ⟨S2x3072x1664, .bf16⟩
  | .hbm, ⟨1, _⟩ => ⟨S1664x27648, .bf16⟩
  | .hbm, ⟨2, _⟩ => ⟨S6144x1664, .bf16⟩
  | .hbm, ⟨3, _⟩ => ⟨S6144x1664, .fp8e4m3⟩
  | .hbm, ⟨4, _⟩ => ⟨S6144x13, .f32⟩
  | .hbm, ⟨5, _⟩ => ⟨S6144x1536, .bf16⟩
  | .hbm, ⟨6, _⟩ => ⟨S6144x128, .f32⟩
  | .hbm, ⟨7, _⟩ => ⟨S6144x27648, .bf16⟩
  | .hbm, ⟨8, _⟩ => ⟨S1664x27648, .fp8e4m3⟩
  | .hbm, ⟨9, _⟩ => ⟨S13x27648, .f32⟩
  | .hbm, ⟨10, _⟩ => ⟨S2x3072x27648, .bf16⟩
  | .hbm, ⟨11, _⟩ => ⟨S2x3072x1664, .fp8e4m3⟩
  | .hbm, ⟨12, _⟩ => ⟨S2x3072x13, .f32⟩
  | .local _ .vmem, ⟨0, _⟩ => ⟨S512x1664, .bf16⟩
  | .local _ .vmem, ⟨1, _⟩ => ⟨S512x1664, .bf16⟩
  | .local _ .vmem, ⟨2, _⟩ => ⟨S512x1664, .fp8e4m3⟩
  | .local _ .vmem, ⟨3, _⟩ => ⟨S512x1664, .fp8e4m3⟩
  | .local _ .vmem, ⟨4, _⟩ => ⟨S512x13, .f32⟩
  | .local _ .vmem, ⟨5, _⟩ => ⟨S512x13, .f32⟩
  | .local _ .vmem, ⟨6, _⟩ => ⟨S512x1536, .bf16⟩
  | .local _ .vmem, ⟨7, _⟩ => ⟨S512x1536, .bf16⟩
  | .local _ .vmem, ⟨8, _⟩ => ⟨S512x128, .f32⟩
  | .local _ .vmem, ⟨9, _⟩ => ⟨S512x128, .f32⟩
  | .local _ .vmem, ⟨10, _⟩ => ⟨S1536x1536, .bf16⟩
  | .local _ .vmem, ⟨11, _⟩ => ⟨S1536x1536, .bf16⟩
  | .local _ .vmem, ⟨12, _⟩ => ⟨S1536x128, .fp8e4m3⟩
  | .local _ .vmem, ⟨13, _⟩ => ⟨S1536x128, .fp8e4m3⟩
  | .local _ .vmem, ⟨14, _⟩ => ⟨S1536x128, .f32⟩
  | .local _ .vmem, ⟨15, _⟩ => ⟨S1536x128, .f32⟩
  | .local _ .vmem, ⟨16, _⟩ => ⟨S1664x512, .bf16⟩
  | .local _ .vmem, ⟨17, _⟩ => ⟨S1664x512, .bf16⟩
  | .local _ .vmem, ⟨18, _⟩ => ⟨S1536x512, .bf16⟩
  | .local _ .vmem, ⟨19, _⟩ => ⟨S1536x512, .bf16⟩
  | .local _ .vmem, ⟨20, _⟩ => ⟨S1664x512, .fp8e4m3⟩
  | .local _ .vmem, ⟨21, _⟩ => ⟨S1664x512, .fp8e4m3⟩
  | .local _ .vmem, ⟨22, _⟩ => ⟨S13x512, .f32⟩
  | .local _ .vmem, ⟨23, _⟩ => ⟨S13x512, .f32⟩
  | .local _ .vmem, ⟨24, _⟩ => ⟨S1536x512, .bf16⟩
  | .local _ .vmem, ⟨25, _⟩ => ⟨S1x512, .f32⟩
  | _, _ => ⟨S2x3072x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1664 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![54, 4], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg1.toNat, c12_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1536x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1536x128 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1536x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1664x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1536x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1664x512 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S13x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceIdeal.lean ====
abbrev S2x3072x1664 : Shape := ⟨3, ![2, 3072, 1664]⟩
abbrev S1664x27648 : Shape := ⟨2, ![1664, 27648]⟩
abbrev S2x3072x27648 : Shape := ⟨3, ![2, 3072, 27648]⟩
abbrev S2x3072x13 : Shape := ⟨3, ![2, 3072, 13]⟩
abbrev S13x27648 : Shape := ⟨2, ![13, 27648]⟩
abbrev S2x3072x13x128 : Shape := ⟨4, ![2, 3072, 13, 128]⟩
abbrev S2x3072x13x1 : Shape := ⟨4, ![2, 3072, 13, 1]⟩
abbrev S13x128x27648 : Shape := ⟨3, ![13, 128, 27648]⟩
abbrev S13x1x27648 : Shape := ⟨3, ![13, 1, 27648]⟩

abbrev nBuf : Space → Nat
  | .hbm => 7
  | .vmem => 7
  | .smem => 0
  | _ => 0

abbrev bufTy : (tb : Table) → Fin (tcTables nBuf tb) → BufTy
  | .hbm, ⟨0, _⟩ => ⟨S2x3072x1664, .bf16⟩
  | .hbm, ⟨1, _⟩ => ⟨S1664x27648, .bf16⟩
  | .hbm, ⟨2, _⟩ => ⟨S2x3072x27648, .bf16⟩
  | .hbm, ⟨3, _⟩ => ⟨S2x3072x1664, .fp8e4m3⟩
  | .hbm, ⟨4, _⟩ => ⟨S2x3072x13, .f32⟩
  | .hbm, ⟨5, _⟩ => ⟨S1664x27648, .fp8e4m3⟩
  | .hbm, ⟨6, _⟩ => ⟨S13x27648, .f32⟩
  | .local _ .vmem, ⟨0, _⟩ => ⟨S2x3072x1664, .bf16⟩
  | .local _ .vmem, ⟨1, _⟩ => ⟨S1664x27648, .bf16⟩
  | .local _ .vmem, ⟨2, _⟩ => ⟨S2x3072x27648, .bf16⟩
  | .local _ .vmem, ⟨3, _⟩ => ⟨S2x3072x1664, .fp8e4m3⟩
  | .local _ .vmem, ⟨4, _⟩ => ⟨S2x3072x13, .f32⟩
  | .local _ .vmem, ⟨5, _⟩ => ⟨S1664x27648, .fp8e4m3⟩
  | .local _ .vmem, ⟨6, _⟩ => ⟨S13x27648, .f32⟩
  | _, _ => ⟨S2x3072x1664, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x3072x1664 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1664x27648 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3072x27648 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3072x1664 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072x13 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1664x27648 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S13x27648 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Region0.lean ====
/- Region 0, the quantiser of the activations: what a grid point leaves, and the body's triple. -/
module

public import Idealize.ShloMosaic.Lib.Pipeline.TableIdle
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quantise_x`, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1664 := Rect.unit (s := S512x1664) ![0, 0] S512x128.size inb_S512x1664_S512x128_0_0
abbrev r0_1 : Rect S512x1536 := Rect.unit (s := S512x1536) ![0, 0] S512x128.size inb_S512x1536_S512x128_0_0
abbrev r0_2 : Rect S512x1664 := Rect.unit (s := S512x1664) ![0, 128] S512x128.size inb_S512x1664_S512x128_0_128
abbrev r0_3 : Rect S512x1536 := Rect.unit (s := S512x1536) ![0, 128] S512x128.size inb_S512x1536_S512x128_0_128
abbrev r0_4 : Rect S512x1664 := Rect.unit (s := S512x1664) ![0, 256] S512x128.size inb_S512x1664_S512x128_0_256
abbrev r0_5 : Rect S512x1536 := Rect.unit (s := S512x1536) ![0, 256] S512x128.size inb_S512x1536_S512x128_0_256
abbrev r0_6 : Rect S512x1664 := Rect.unit (s := S512x1664) ![0, 384] S512x128.size inb_S512x1664_S512x128_0_384
abbrev r0_7 : Rect S512x1536 := Rect.unit (s := S512x1536) ![0, 384] S512x128.size inb_S512x1536_S512x128_0_384
abbrev r0_8 : Rect S512x1664 := Rect.unit (s := S512x1664) ![0, 512] S512x128.size inb_S512x1664_S512x128_0_512
abbrev r0_9 : Rect S512x1536 := Rect.unit (s := S512x1536) ![0, 512] S512x128.size inb_S512x1536_S512x128_0_512
abbrev r0_10 : Rect S512x1664 := Rect.unit (s := S512x1664) ![0, 640] S512x128.size inb_S512x1664_S512x128_0_640
abbrev r0_11 : Rect S512x1536 := Rect.unit (s := S512x1536) ![0, 640] S512x128.size inb_S512x1536_S512x128_0_640
abbrev r0_12 : Rect S512x1664 := Rect.unit (s := S512x1664) ![0, 768] S512x128.size inb_S512x1664_S512x128_0_768
abbrev r0_13 : Rect S512x1536 := Rect.unit (s := S512x1536) ![0, 768] S512x128.size inb_S512x1536_S512x128_0_768
abbrev r0_14 : Rect S512x1664 := Rect.unit (s := S512x1664) ![0, 896] S512x128.size inb_S512x1664_S512x128_0_896
abbrev r0_15 : Rect S512x1536 := Rect.unit (s := S512x1536) ![0, 896] S512x128.size inb_S512x1536_S512x128_0_896
abbrev r0_16 : Rect S512x1664 := Rect.unit (s := S512x1664) ![0, 1024] S512x128.size inb_S512x1664_S512x128_0_1024
abbrev r0_17 : Rect S512x1536 := Rect.unit (s := S512x1536) ![0, 1024] S512x128.size inb_S512x1536_S512x128_0_1024
abbrev r0_18 : Rect S512x1664 := Rect.unit (s := S512x1664) ![0, 1152] S512x128.size inb_S512x1664_S512x128_0_1152
abbrev r0_19 : Rect S512x1536 := Rect.unit (s := S512x1536) ![0, 1152] S512x128.size inb_S512x1536_S512x128_0_1152
abbrev r0_20 : Rect S512x1664 := Rect.unit (s := S512x1664) ![0, 1280] S512x128.size inb_S512x1664_S512x128_0_1280
abbrev r0_21 : Rect S512x1536 := Rect.unit (s := S512x1536) ![0, 1280] S512x128.size inb_S512x1536_S512x128_0_1280
abbrev r0_22 : Rect S512x1664 := Rect.unit (s := S512x1664) ![0, 1408] S512x128.size inb_S512x1664_S512x128_0_1408
abbrev r0_23 : Rect S512x1536 := Rect.unit (s := S512x1536) ![0, 1408] S512x128.size inb_S512x1536_S512x128_0_1408
abbrev r0_24 : Rect S512x1664 := Rect.unit (s := S512x1664) ![0, 1536] S512x128.size inb_S512x1664_S512x128_0_1536
abbrev r0_25 : Rect S512x128 := Rect.unit (s := S512x128) ![0, 0] S512x128.size inb_S512x128_S512x128_0_0
abbrev r0_26 : Rect S512x13 := Rect.unit (s := S512x13) ![0, 0] S512x13.size inb_S512x13_S512x13_0_0

/-! ## What the body leaves in each output window's buffer -/

/-! ### Values of the body that the stores' payloads, spelt out, would write more than once Each is a vector the body binds, stated over the input windows' blocks and numbered on from the skeleton's payload functions, so that `out0_W` and the values after it name it instead of spelling it out; the comment after each is the printed function's name for the value. -/

def k0_pay133 (x0 : Vec F S512x1664 .bf16) : IVec S512x128 32 :=
  iota .tc S512x128 32 [1] iota_S512x128_d1_w32 -- `v0`
def k0_pay134 (x0 : Vec F S512x1664 .bf16) : FVec F S512x128 .bf16 :=
  k0_pay4 (View.ld x0 r0_0) -- `v3`
def k0_pay135 (x0 : Vec F S512x1664 .bf16) : FVec F S512x128 .f32 :=
  k0_pay5 (View.ld x0 r0_0) -- `v11`
def k0_pay136 (x0 : Vec F S512x1664 .bf16) : IVec S512x128 32 :=
  k0_pay6 (View.ld x0 r0_0) -- `v42`
def k0_pay137 (x0 : Vec F S512x1664 .bf16) : IVec S512x128 32 :=
  k0_pay7 (View.ld x0 r0_0) -- `v44`
def k0_pay138 (x0 : Vec F S512x1664 .bf16) : FVec F S512x128 .f32 :=
  k0_pay8 (View.ld x0 r0_0) -- `v45`
def k0_pay139 (x0 : Vec F S512x1664 .bf16) : FVec F S512x128 .bf16 :=
  k0_pay14 (View.ld x0 r0_2) -- `v84`
def k0_pay140 (x0 : Vec F S512x1664 .bf16) : FVec F S512 .f32 :=
  k0_pay15 (View.ld x0 r0_2) -- `v87`
def k0_pay141 (x0 : Vec F S512x1664 .bf16) : IVec S512x128 32 :=
  k0_pay16 (k0_pay140 x0) -- `v133`
def k0_pay142 (x0 : Vec F S512x1664 .bf16) : IVec S512x128 1 :=
  k0_pay17 (k0_pay140 x0) -- `v135`
def k0_pay143 (x0 : Vec F S512x1664 .bf16) : FVec F S512x128 .bf16 :=
  k0_pay23 (View.ld x0 r0_4) -- `v165`
def k0_pay144 (x0 : Vec F S512x1664 .bf16) : FVec F S512x128 .f32 :=
  k0_pay24 (View.ld x0 r0_4) -- `v173`
def k0_pay145 (x0 : Vec F S512x1664 .bf16) : IVec S512x128 32 :=
  k0_pay25 -- `v174`
def k0_pay146 (x0 : Vec F S512x1664 .bf16) : IVec S512x128 32 :=
  k0_pay26 -- `v176`
def k0_pay147 (x0 : Vec F S512x1664 .bf16) : FVec F S512x128 .f32 :=
  k0_pay27 (F := F) -- `v177`
def k0_pay148 (x0 : Vec F S512x1664 .bf16) : IVec S512x128 32 :=
  k0_pay28 (k0_pay144 x0) (k0_pay145 x0) (k0_pay146 x0) (k0_pay147 x0) -- `v221`
def k0_pay149 (x0 : Vec F S512x1664 .bf16) : FVec F S512x128 .f32 :=
  k0_pay29 (k0_pay144 x0) (k0_pay145 x0) (k0_pay146 x0) (k0_pay147 x0) -- `v224`
def k0_pay150 (x0 : Vec F S512x1664 .bf16) : IVec S512x128 32 :=
  k0_pay30 -- `v225`
def k0_pay151 (x0 : Vec F S512x1664 .bf16) : FVec F S512x128 .f32 :=
  k0_pay35 (View.ld x0 r0_6) -- `v254`
def k0_pay152 (x0 : Vec F S512x1664 .bf16) : IVec S512x128 32 :=
  k0_pay36 (View.ld x0 r0_6) -- `v265`
def k0_pay153 (x0 : Vec F S512x1664 .bf16) : IVec S512x128 32 :=
  k0_pay37 (View.ld x0 r0_6) -- `v267`
def k0_pay154 (x0 : Vec F S512x1664 .bf16) : FVec F S512x128 .f32 :=
  k0_pay38 (View.ld x0 r0_6) -- `v268`
def k0_pay155 (x0 : Vec F S512x1664 .bf16) : FVec F S512x128 .f32 :=
  k0_pay40 (k0_pay151 x0) (k0_pay152 x0) (k0_pay153 x0) (k0_pay154 x0) -- `v305`
def k0_pay156 (x0 : Vec F S512x1664 .bf16) : FVec F S512x128 .bf16 :=
  k0_pay41 (k0_pay34 (View.ld x0 r0_6)) (k0_pay151 x0) (k0_pay152 x0) (k0_pay153 x0) (k0_pay154 x0) -- `v316`
def k0_pay157 (x0 : Vec F S512x1664 .bf16) : FVec F S512x128 .bf16 :=
  k0_pay45 (View.ld x0 r0_8) -- `v327`
def k0_pay158 (x0 : Vec F S512x1664 .bf16) : FVec F S512x128 .f32 :=
  k0_pay46 (View.ld x0 r0_8) -- `v335`
def k0_pay159 (x0 : Vec F S512x1664 .bf16) : IVec S512x128 32 :=
  k0_pay47 (View.ld x0 r0_8) -- `v356`
def k0_pay160 (x0 : Vec F S512x1664 .bf16) : IVec S512x128 32 :=
  k0_pay48 (View.ld x0 r0_8) -- `v358`
def k0_pay161 (x0 : Vec F S512x1664 .bf16) : FVec F S512x128 .f32 :=
  k0_pay49 (View.ld x0 r0_8) -- `v359`
def k0_pay162 (x0 : Vec F S512x1664 .bf16) : FVec F S512x128 .bf16 :=
  k0_pay55 (View.ld x0 r0_10) -- `v408`
def k0_pay163 (x0 : Vec F S512x1664 .bf16) : FVec F S512x128 .f32 :=
  k0_pay56 (View.ld x0 r0_10) -- `v416`
def k0_pay164 (x0 : Vec F S512x1664 .bf16) : IVec S512x128 32 :=
  k0_pay57 (View.ld x0 r0_10) -- `v447`
def k0_pay165 (x0 : Vec F S512x1664 .bf16) : IVec S512x128 32 :=
  k0_pay58 (View.ld x0 r0_10) -- `v449`
def k0_pay166 (x0 : Vec F S512x1664 .bf16) : FVec F S512x128 .f32 :=
  k0_pay59 (View.ld x0 r0_10) -- `v450`
def k0_pay167 (x0 : Vec F S512x1664 .bf16) : FVec F S512x128 .bf16 :=
  k0_pay65 (View.ld x0 r0_12) -- `v489`
def k0_pay168 (x0 : Vec F S512x1664 .bf16) : FVec F S512 .f32 :=
  k0_pay66 (View.ld x0 r0_12) -- `v492`
def k0_pay169 (x0 : Vec F S512x1664 .bf16) : IVec S512x128 32 :=
  k0_pay67 (k0_pay168 x0) -- `v538`
def k0_pay170 (x0 : Vec F S512x1664 .bf16) : IVec S512x128 1 :=
  k0_pay68 (k0_pay168 x0) -- `v540`
def k0_pay171 (x0 : Vec F S512x1664 .bf16) : FVec F S512x128 .bf16 :=
  k0_pay74 (View.ld x0 r0_14) -- `v570`
def k0_pay172 (x0 : Vec F S512x1664 .bf16) : FVec F S512x128 .f32 :=
  k0_pay75 (View.ld x0 r0_14) -- `v578`
def k0_pay173 (x0 : Vec F S512x1664 .bf16) : IVec S512x128 32 :=
  k0_pay76 -- `v579`
def k0_pay174 (x0 : Vec F S512x1664 .bf16) : IVec S512x128 32 :=
  k0_pay77 -- `v581`
def k0_pay175 (x0 : Vec F S512x1664 .bf16) : FVec F S512x128 .f32 :=
  k0_pay78 (F := F) -- `v582`
def k0_pay176 (x0 : Vec F S512x1664 .bf16) : IVec S512x128 32 :=
  k0_pay79 (k0_pay172 x0) (k0_pay173 x0) (k0_pay174 x0) (k0_pay175 x0) -- `v626`
def k0_pay177 (x0 : Vec F S512x1664 .bf16) : FVec F S512x128 .f32 :=
  k0_pay80 (k0_pay172 x0) (k0_pay173 x0) (k0_pay174 x0) (k0_pay175 x0) -- `v629`
def k0_pay178 (x0 : Vec F S512x1664 .bf16) : IVec S512x128 32 :=
  k0_pay81 -- `v630`
def k0_pay179 (x0 : Vec F S512x1664 .bf16) : FVec F S512x128 .f32 :=
  k0_pay86 (View.ld x0 r0_16) -- `v659`
def k0_pay180 (x0 : Vec F S512x1664 .bf16) : IVec S512x128 32 :=
  k0_pay87 (View.ld x0 r0_16) -- `v670`
def k0_pay181 (x0 : Vec F S512x1664 .bf16) : IVec S512x128 32 :=
  k0_pay88 (View.ld x0 r0_16) -- `v672`
def k0_pay182 (x0 : Vec F S512x1664 .bf16) : FVec F S512x128 .f32 :=
  k0_pay89 (View.ld x0 r0_16) -- `v673`
def k0_pay183 (x0 : Vec F S512x1664 .bf16) : FVec F S512x128 .f32 :=
  k0_pay91 (k0_pay179 x0) (k0_pay180 x0) (k0_pay181 x0) (k0_pay182 x0) -- `v710`
def k0_pay184 (x0 : Vec F S512x1664 .bf16) : FVec F S512x128 .bf16 :=
  k0_pay92 (k0_pay85 (View.ld x0 r0_16)) (k0_pay179 x0) (k0_pay180 x0) (k0_pay181 x0) (k0_pay182 x0) -- `v721`
def k0_pay185 (x0 : Vec F S512x1664 .bf16) : FVec F S512x128 .bf16 :=
  k0_pay96 (View.ld x0 r0_18) -- `v732`
def k0_pay186 (x0 : Vec F S512x1664 .bf16) : FVec F S512x128 .f32 :=
  k0_pay97 (View.ld x0 r0_18) -- `v740`
def k0_pay187 (x0 : Vec F S512x1664 .bf16) : IVec S512x128 32 :=
  k0_pay98 (View.ld x0 r0_18) -- `v761`
def k0_pay188 (x0 : Vec F S512x1664 .bf16) : IVec S512x128 32 :=
  k0_pay99 (View.ld x0 r0_18) -- `v763`
def k0_pay189 (x0 : Vec F S512x1664 .bf16) : FVec F S512x128 .f32 :=
  k0_pay100 (View.ld x0 r0_18) -- `v764`
def k0_pay190 (x0 : Vec F S512x1664 .bf16) : FVec F S512x128 .bf16 :=
  k0_pay106 (View.ld x0 r0_20) -- `v813`
def k0_pay191 (x0 : Vec F S512x1664 .bf16) : FVec F S512x128 .f32 :=
  k0_pay107 (View.ld x0 r0_20) -- `v821`
def k0_pay192 (x0 : Vec F S512x1664 .bf16) : IVec S512x128 32 :=
  k0_pay108 (View.ld x0 r0_20) -- `v852`
def k0_pay193 (x0 : Vec F S512x1664 .bf16) : IVec S512x128 32 :=
  k0_pay109 (View.ld x0 r0_20) -- `v854`
def k0_pay194 (x0 : Vec F S512x1664 .bf16) : FVec F S512x128 .f32 :=
  k0_pay110 (View.ld x0 r0_20) -- `v855`
def k0_pay195 (x0 : Vec F S512x1664 .bf16) : FVec F S512x128 .bf16 :=
  k0_pay116 (View.ld x0 r0_22) -- `v894`
def k0_pay196 (x0 : Vec F S512x1664 .bf16) : FVec F S512 .f32 :=
  k0_pay117 (View.ld x0 r0_22) -- `v897`
def k0_pay197 (x0 : Vec F S512x1664 .bf16) : IVec S512x128 32 :=
  k0_pay118 (k0_pay196 x0) -- `v943`
def k0_pay198 (x0 : Vec F S512x1664 .bf16) : IVec S512x128 1 :=
  k0_pay119 (k0_pay196 x0) -- `v945`
def k0_pay199 (x0 : Vec F S512x1664 .bf16) : FVec F S512x128 .f32 :=
  k0_pay126 (View.ld x0 r0_24) -- `v983`
def k0_pay200 (x0 : Vec F S512x1664 .bf16) : IVec S512x128 32 :=
  k0_pay127 -- `v984`
def k0_pay201 (x0 : Vec F S512x1664 .bf16) : IVec S512x128 32 :=
  k0_pay128 -- `v986`
def k0_pay202 (x0 : Vec F S512x1664 .bf16) : FVec F S512x128 .f32 :=
  k0_pay129 (F := F) -- `v987`
def k0_pay203 (x0 : Vec F S512x1664 .bf16) : FVec F S512x128 .f32 :=
  k0_pay131 (k0_pay199 x0) (k0_pay200 x0) (k0_pay201 x0) (k0_pay202 x0) -- `v1034`

/-- Window 1's staging buffer after the body, from the input windows' blocks. -/
def out0_1 (x0 : Vec F S512x1664 .bf16) : Vec F S512x1664 .fp8e4m3 :=
  View.canon [⟨r0_24, k0_pay1 (k0_pay125 (View.ld x0 r0_24)) (k0_pay130 (k0_pay199 x0) (k0_pay200 x0) (k0_pay201 x0) (k0_pay202 x0)) k0_pay132⟩,
    ⟨r0_22, k0_pay122 (k0_pay195 x0) (k0_pay197 x0) (k0_pay198 x0) 2139095040#32⟩,
    ⟨r0_20, k0_pay113 (k0_pay190 x0) (k0_pay191 x0) (k0_pay192 x0) (k0_pay193 x0) (k0_pay194 x0)⟩,
    ⟨r0_18, k0_pay103 (k0_pay185 x0) (k0_pay186 x0) (k0_pay187 x0) (k0_pay188 x0) (k0_pay189 x0)⟩,
    ⟨r0_16, k0_pay93 (k0_pay184 x0)⟩,
    ⟨r0_14, k0_pay82 (k0_pay171 x0) (k0_pay176 x0) (k0_pay178 x0)⟩,
    ⟨r0_12, k0_pay71 (k0_pay167 x0) (k0_pay169 x0) (k0_pay170 x0) 2139095040#32⟩,
    ⟨r0_10, k0_pay62 (k0_pay162 x0) (k0_pay163 x0) (k0_pay164 x0) (k0_pay165 x0) (k0_pay166 x0)⟩,
    ⟨r0_8, k0_pay52 (k0_pay157 x0) (k0_pay158 x0) (k0_pay159 x0) (k0_pay160 x0) (k0_pay161 x0)⟩,
    ⟨r0_6, k0_pay42 (k0_pay156 x0)⟩,
    ⟨r0_4, k0_pay31 (k0_pay143 x0) (k0_pay148 x0) (k0_pay150 x0)⟩,
    ⟨r0_2, k0_pay20 (k0_pay139 x0) (k0_pay141 x0) (k0_pay142 x0) 2139095040#32⟩,
    ⟨r0_0, k0_pay11 (k0_pay134 x0) (k0_pay135 x0) (k0_pay136 x0) (k0_pay137 x0) (k0_pay138 x0)⟩]

/-- Its stores tile the buffer, so they cover it. -/
theorem cover0_1 (p0 : Vec F S512x128 .fp8e4m3) (p1 : Vec F S512x128 .fp8e4m3) (p2 : Vec F S512x128 .fp8e4m3) (p3 : Vec F S512x128 .fp8e4m3) (p4 : Vec F S512x128 .fp8e4m3) (p5 : Vec F S512x128 .fp8e4m3) (p6 : Vec F S512x128 .fp8e4m3) (p7 : Vec F S512x128 .fp8e4m3) (p8 : Vec F S512x128 .fp8e4m3) (p9 : Vec F S512x128 .fp8e4m3) (p10 : Vec F S512x128 .fp8e4m3) (p11 : Vec F S512x128 .fp8e4m3) (p12 : Vec F S512x128 .fp8e4m3) (y : S512x1664.Idx) :
    ∃ pc ∈ ([⟨r0_24, p0⟩, ⟨r0_22, p1⟩, ⟨r0_20, p2⟩, ⟨r0_18, p3⟩, ⟨r0_16, p4⟩, ⟨r0_14, p5⟩, ⟨r0_12, p6⟩, ⟨r0_10, p7⟩, ⟨r0_8, p8⟩, ⟨r0_6, p9⟩, ⟨r0_4, p10⟩, ⟨r0_2, p11⟩, ⟨r0_0, p12⟩] : List (View.Piece (Elt F) S512x1664 .fp8e4m3)), y ∈ pc.1.set :=
  View.cover_of_tiled [⟨r0_24, p0⟩, ⟨r0_22, p1⟩, ⟨r0_20, p2⟩, ⟨r0_18, p3⟩, ⟨r0_16, p4⟩, ⟨r0_14, p5⟩, ⟨r0_12, p6⟩, ⟨r0_10, p7⟩, ⟨r0_8, p8⟩, ⟨r0_6, p9⟩, ⟨r0_4, p10⟩, ⟨r0_2, p11⟩, ⟨r0_0, p12⟩] S512x128.size (by rfl) y

/-- Window 2's staging buffer after the body, from the input windows' blocks. -/
def out0_2 (x0 : Vec F S512x1664 .bf16) : Vec F S512x13 .f32 :=
  View.canon [⟨r0_26, k0_pay2 (k0_pay133 x0) (k0_pay123 (k0_pay133 x0) (k0_pay114 (k0_pay133 x0) (k0_pay104 (k0_pay133 x0) (k0_pay94 (k0_pay133 x0) (k0_pay83 (k0_pay133 x0) (k0_pay72 (k0_pay133 x0) (k0_pay63 (k0_pay133 x0) (k0_pay53 (k0_pay133 x0) (k0_pay43 (k0_pay133 x0) (k0_pay32 (k0_pay133 x0) (k0_pay21 (k0_pay133 x0) (k0_pay12 (k0_pay133 x0) (k0_pay3 (F := F)) (k0_pay135 x0) (k0_pay136 x0) (k0_pay137 x0) (k0_pay138 x0)) (k0_pay141 x0) (k0_pay142 x0) 2139095040#32) (k0_pay149 x0)) (k0_pay155 x0)) (k0_pay158 x0) (k0_pay159 x0) (k0_pay160 x0) (k0_pay161 x0)) (k0_pay163 x0) (k0_pay164 x0) (k0_pay165 x0) (k0_pay166 x0)) (k0_pay169 x0) (k0_pay170 x0) 2139095040#32) (k0_pay177 x0)) (k0_pay183 x0)) (k0_pay186 x0) (k0_pay187 x0) (k0_pay188 x0) (k0_pay189 x0)) (k0_pay191 x0) (k0_pay192 x0) (k0_pay193 x0) (k0_pay194 x0)) (k0_pay197 x0) (k0_pay198 x0) 2139095040#32) (k0_pay203 x0)⟩]

/-- Its stores tile the buffer, so they cover it. -/
theorem cover0_2 (p0 : Vec F S512x13 .f32) (y : S512x13.Idx) :
    ∃ pc ∈ ([⟨r0_26, p0⟩] : List (View.Piece (Elt F) S512x13 .f32)), y ∈ pc.1.set :=
  View.cover_of_tiled [⟨r0_26, p0⟩] S512x13.size (by rfl) y

/-- Window 3's staging buffer after the body, from the input windows' blocks. -/
def out0_3 (x0 : Vec F S512x1664 .bf16) : Vec F S512x1536 .bf16 :=
  View.canon [⟨r0_23, k0_pay124 (k0_pay195 x0) (k0_pay197 x0) (k0_pay198 x0) 2139095040#32⟩,
    ⟨r0_21, k0_pay115 (k0_pay190 x0) (k0_pay191 x0) (k0_pay192 x0) (k0_pay193 x0) (k0_pay194 x0)⟩,
    ⟨r0_19, k0_pay105 (k0_pay185 x0) (k0_pay186 x0) (k0_pay187 x0) (k0_pay188 x0) (k0_pay189 x0)⟩,
    ⟨r0_17, k0_pay95 (k0_pay183 x0) (k0_pay184 x0)⟩,
    ⟨r0_15, k0_pay84 (k0_pay171 x0) (k0_pay176 x0) (k0_pay177 x0) (k0_pay178 x0)⟩,
    ⟨r0_13, k0_pay73 (k0_pay167 x0) (k0_pay169 x0) (k0_pay170 x0) 2139095040#32⟩,
    ⟨r0_11, k0_pay64 (k0_pay162 x0) (k0_pay163 x0) (k0_pay164 x0) (k0_pay165 x0) (k0_pay166 x0)⟩,
    ⟨r0_9, k0_pay54 (k0_pay157 x0) (k0_pay158 x0) (k0_pay159 x0) (k0_pay160 x0) (k0_pay161 x0)⟩,
    ⟨r0_7, k0_pay44 (k0_pay155 x0) (k0_pay156 x0)⟩,
    ⟨r0_5, k0_pay33 (k0_pay143 x0) (k0_pay148 x0) (k0_pay149 x0) (k0_pay150 x0)⟩,
    ⟨r0_3, k0_pay22 (k0_pay139 x0) (k0_pay141 x0) (k0_pay142 x0) 2139095040#32⟩,
    ⟨r0_1, k0_pay13 (k0_pay134 x0) (k0_pay135 x0) (k0_pay136 x0) (k0_pay137 x0) (k0_pay138 x0)⟩]

/-- Its stores tile the buffer, so they cover it. -/
theorem cover0_3 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (y : S512x1536.Idx) :
    ∃ pc ∈ ([⟨r0_23, p0⟩, ⟨r0_21, p1⟩, ⟨r0_19, p2⟩, ⟨r0_17, p3⟩, ⟨r0_15, p4⟩, ⟨r0_13, p5⟩, ⟨r0_11, p6⟩, ⟨r0_9, p7⟩, ⟨r0_7, p8⟩, ⟨r0_5, p9⟩, ⟨r0_3, p10⟩, ⟨r0_1, p11⟩] : List (View.Piece (Elt F) S512x1536 .bf16)), y ∈ pc.1.set :=
  View.cover_of_tiled [⟨r0_23, p0⟩, ⟨r0_21, p1⟩, ⟨r0_19, p2⟩, ⟨r0_17, p3⟩, ⟨r0_15, p4⟩, ⟨r0_13, p5⟩, ⟨r0_11, p6⟩, ⟨r0_9, p7⟩, ⟨r0_7, p8⟩, ⟨r0_5, p9⟩, ⟨r0_3, p10⟩, ⟨r0_1, p11⟩] S512x128.size (by rfl) y

/-- Window 4's staging buffer after the body, from the input windows' blocks. -/
def out0_4 (x0 : Vec F S512x1664 .bf16) : Vec F S512x128 .f32 :=
  View.canon [⟨r0_25, k0_pay203 x0⟩]

/-- Its stores tile the buffer, so they cover it. -/
theorem cover0_4 (p0 : Vec F S512x128 .f32) (y : S512x128.Idx) :
    ∃ pc ∈ ([⟨r0_25, p0⟩] : List (View.Piece (Elt F) S512x128 .f32)), y ∈ pc.1.set :=
  View.cover_of_tiled [⟨r0_25, p0⟩] S512x128.size (by rfl) y

/-! ## The body's triple -/

set_option maxHeartbeats 1000000 in
/-- The kernel body on whole staging memrefs, the inputs' at read contents `xW` and the outputs' at anything, runs to the continuation holding the inputs' as they were and each output's at `out0_W` of the inputs'. -/
theorem sound_kernel0 (c : Dev nD) (E : Set ℕ) (i : grid0.Coords) (arg1 : Memref sig .tc .vmem S512x1664 .bf16) (harg1 : arg1.IsWhole) (arg2 : Memref sig .tc .vmem S512x1664 .fp8e4m3) (harg2 : arg2.IsWhole) (arg3 : Memref sig .tc .vmem S512x13 .f32) (harg3 : arg3.IsWhole) (arg4 : Memref sig .tc .vmem S512x1536 .bf16) (harg4 : arg4.IsWhole) (arg5 : Memref sig .tc .vmem S512x128 .f32) (harg5 : arg5.IsWhole)
    (x0 : Vec F S512x1664 .bf16) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (out0_1 x0) ∗ owns (c : Thread nD τ) arg3 fullShare (out0_2 x0) ∗ owns (c : Thread nD τ) arg4 fullShare (out0_3 x0) ∗ owns (c : Thread nD τ) arg5 fullShare (out0_4 x0)) -∗ K ⟨⟩))
      ⊢ wp frame (wpE (defs₀ (F := F)) Variants.none c none) E (cc0_quantise_x i arg1 harg1 arg2 harg2 arg3 harg3 arg4 harg4 arg5 harg5) K := by
  simp only [cc0_quantise_x_eq_skeleton]; unfold cc0_quantise_x_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _ _ _ _ _ _ _ _ _ _ _ _ _)).trans ?_
    rfl
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _ _ _ _ _ _ _ _ _ _ _ _)).trans ?_
    rfl
  iexists _; isplitr
  swap; · iexact H4
  ipureintro
  refine (View.read_writes_eq_canon _ _ _ (cover0_4 _)).trans ?_
  rfl

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

/-- The proof data's arrays are the region-entry contents, by projecting the definition. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.Kernel.Region1.lean ====
/- Region 1, the quantised matmul: its windows' blocks, its branch condition and its idle points. -/
module

public import Idealize.ShloMosaic.Lib.Pipeline.TableIdle
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_quantised_matmul`, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0, from the grid coordinates. -/
abbrev cond1_0 (i : grid1.Coords) : Prop := k1_cond1 i = 1#1
/-- It holds at the points ≡ 0. -/
theorem hcond1_0 : ∀ t : Fin cfg1.N, cond1_0 (grid1.coords t) ↔ t.val % 4 = 0 :=
  (fun t => by
    have ht : t.val < 216 := Nat.lt_of_lt_of_eq t.isLt N_1
    have e0 : (grid1.coords t 0).val = t.val / 4 % 54 := Pipeline.Grid.coords_val t 0 (by decide) rfl
    have e1 : (grid1.coords t 1).val = t.val / 1 % 4 := Pipeline.Grid.coords_val t 1 (by decide) rfl
    simp only [cond1_0, k1_cond1, e0, e1]
    word_cmp
   : ∀ t : Fin grid1.N, cond1_0 (grid1.coords t) ↔ t.val % 4 = 0)

/-! ## Where the windows are idle -/

/-- Window 0 is never idle. -/
theorem liveAt1_0 : ∀ t : Fin cfg1.N, cfg1.idle 0 (grid1.coords t) = false := fun _ => rfl
/-- Window 1 is never idle. -/
theorem liveAt1_1 : ∀ t : Fin cfg1.N, cfg1.idle 1 (grid1.coords t) = false := fun _ => rfl
/-- Window 2 is never idle. -/
theorem liveAt1_2 : ∀ t : Fin cfg1.N, cfg1.idle 2 (grid1.coords t) = false := fun _ => rfl
/-- Window 3 is never idle. -/
theorem liveAt1_3 : ∀ t : Fin cfg1.N, cfg1.idle 3 (grid1.coords t) = false := fun _ => rfl
/-- Window 4 is never idle. -/
theorem liveAt1_4 : ∀ t : Fin cfg1.N, cfg1.idle 4 (grid1.coords t) = false := fun _ => rfl
/-- Whether output 5's buffer is FRESH at each position `1 ‥ N`. -/
def freshTab1_5 : ℕ → Bool
  | 0 => true
  | n + 1 => (0x888888888888888888888888888888888888888888888888888888 : ℕ).testBit n
theorem freshTab1_5_step : ∀ t : Fin cfg1.N,
    freshTab1_5 (t.val + 1) = ((cfg1.win 5).flush t || (cfg1.idle 5 (cfg1.grid.coords t) && freshTab1_5 t.val)) := by decide +kernel
theorem fresh1_5_eq (t : Fin cfg1.N) : cfg1.fresh 5 t.val = freshTab1_5 t.val :=
  Pipeline.Cfg.fresh_tab cfg1 5 freshTab1_5 rfl freshTab1_5_step t.val (Nat.le_of_lt t.isLt)
/-- At the points of case A the printed configuration calls output 5 live. -/
theorem liveAt1_5_A : ∀ t : Fin cfg1.N, cond1_0 (grid1.coords t) → cfg1.idle 5 (grid1.coords t) = false := by decide +kernel
/-- At the points of case B the printed configuration calls output 5 live. -/
theorem idleAt1_5_B : ∀ t : Fin cfg1.N, ¬cond1_0 (grid1.coords t) → cfg1.idle 5 (grid1.coords t) = true := by decide +kernel
/-- At the points of case B, which keeps output 5's prior contents, the window's buffer is not FRESH. -/
theorem notFresh1_5_B : ∀ t : Fin cfg1.N, ¬cond1_0 (grid1.coords t) → cfg1.fresh 5 t.val = false := by
  intro t; rw [fresh1_5_eq t]; revert t; decide +kernel
/-- Whether output 6's buffer is FRESH at each position `1 ‥ N`. -/
def freshTab1_6 : ℕ → Bool
  | 0 => true
  | n + 1 => (0x888888888888888888888888888888888888888888888888888888 : ℕ).testBit n
theorem freshTab1_6_step : ∀ t : Fin cfg1.N,
    freshTab1_6 (t.val + 1) = ((cfg1.win 6).flush t || (cfg1.idle 6 (cfg1.grid.coords t) && freshTab1_6 t.val)) := by decide +kernel
theorem fresh1_6_eq (t : Fin cfg1.N) : cfg1.fresh 6 t.val = freshTab1_6 t.val :=
  Pipeline.Cfg.fresh_tab cfg1 6 freshTab1_6 rfl freshTab1_6_step t.val (Nat.le_of_lt t.isLt)
/-- At the points of case A the printed configuration calls output 6 live. -/
theorem liveAt1_6_A : ∀ t : Fin cfg1.N, cond1_0 (grid1.coords t) → cfg1.idle 6 (grid1.coords t) = false := by decide +kernel
/-- At the points of case B the printed configuration calls output 6 live. -/
theorem idleAt1_6_B : ∀ t : Fin cfg1.N, ¬cond1_0 (grid1.coords t) → cfg1.idle 6 (grid1.coords t) = true := by decide +kernel
/-- At the points of case B, which keeps output 6's prior contents, the window's buffer is not FRESH. -/
theorem notFresh1_6_B : ∀ t : Fin cfg1.N, ¬cond1_0 (grid1.coords t) → cfg1.fresh 6 t.val = false := by
  intro t; rw [fresh1_6_eq t]; revert t; decide +kernel

/-! ## The kernel body on any staging memrefs: a subtype the run finds -/

/-- One staging buffer of output window 4, through which its contents are stated. -/
abbrev VO1_4 : View sig .tc .vmem S1536x512 .bf16 := (Memref.whole cc1_stg4_0 : Memref sig .tc .vmem S1536x512 .bf16).view
/-- One staging buffer of output window 5, through which its contents are stated. -/
abbrev VO1_5 : View sig .tc .vmem S1664x512 .fp8e4m3 := (Memref.whole cc1_stg5_0 : Memref sig .tc .vmem S1664x512 .fp8e4m3).view
/-- One staging buffer of output window 6, through which its contents are stated. -/
abbrev VO1_6 : View sig .tc .vmem S13x512 .f32 := (Memref.whole cc1_stg6_0 : Memref sig .tc .vmem S13x512 .f32).view
/-- Each window's current staging memref at point `t`, spelled as the pipeline passes it, and its wholeness. -/
abbrev ms1_0 (t : Fin cfg1.N) : Memref sig .tc .vmem S1536x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x128 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1536x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1664x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1536x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1664x512 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S13x512 .f32 := win1_6.stage (cfg1.slots t 6)
abbrev hs1_6 (t : Fin cfg1.N) : (ms1_6 t).IsWhole := hstage1_6 ((cfg1.slots t 6).cast nbuf1_6)
/-- The scratch operands. -/
abbrev scM1_0 : Memref sig .tc .vmem S1536x512 .bf16 := Memref.whole cc1_scratch0
abbrev scM1_1 : Memref sig .tc .vmem S1x512 .f32 := Memref.whole cc1_scratch1
/-- The scratch `arg9` the kernel carries between points, as a view. -/
abbrev VS1_0 : View sig .tc .vmem S1536x512 .bf16 := scM1_0.view
/-- The scratch `arg10` the kernel carries between points, as a view. -/
abbrev VS1_1 : View sig .tc .vmem S1x512 .f32 := scM1_1.view

/-- The frame kit's invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Regions

end Cert.Kernel.Gen

end
-- ==== Proof.Kernel.RunA.lean ====
/- Region 1 at a point that opens a column panel (the weights are quantised there). -/
module

public import Idealize.ShloMosaic.Lib.Pipeline.TableIdle
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.Region1

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces IN CASE A, WITH the proof that on whole staging memrefs. -/
noncomputable def kernelRun1_A (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) :
    Σ' (L4 : List (View.Piece (Elt F) S1536x512 .bf16)), Σ' (L5 : List (View.Piece (Elt F) S1664x512 .fp8e4m3)), Σ' (L6 : List (View.Piece (Elt F) S13x512 .f32)), Σ' (LS0 : List (View.Piece (Elt F) S1536x512 .bf16)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_quantised_matmul i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1_quantised_matmul_eq_skeleton]; unfold cc1_quantised_matmul_skel
    simp only [k1_part26_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part27_eq_skeleton, k1_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

/-- Case A's pieces for output 4 tile its block, so they cover it. -/
theorem cover1_A_4 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S1536x512.Idx) :
    ∃ pc ∈ (kernelRun1_A c i arg2 harg2 arg3 harg3 arg4 harg4 arg5 harg5 arg6 harg6 arg7 harg7 arg8 harg8 arg9 harg9 arg10 harg10 hc0 x0 x1 x2 x3).1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).1 S256x512.size (by sl_kernel_rfl) y

/-- What case A leaves in output 4's staging buffer. -/
def out1_A_4 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S1536x512 .bf16 :=
  VO1_4.read (Elt F) (VO1_4.writes (Elt F) VO1_4.junk (kernelRun1_A c i arg2 harg2 arg3 harg3 arg4 harg4 arg5 harg5 arg6 harg6 arg7 harg7 arg8 harg8 arg9 harg9 arg10 harg10 hc0 x0 x1 x2 x3).1)

/-- Case A's pieces for output 5 tile its block, so they cover it. -/
theorem cover1_A_5 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S1664x512.Idx) :
    ∃ pc ∈ (kernelRun1_A c i arg2 harg2 arg3 harg3 arg4 harg4 arg5 harg5 arg6 harg6 arg7 harg7 arg8 harg8 arg9 harg9 arg10 harg10 hc0 x0 x1 x2 x3).2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).2.1 S128x512.size (by sl_kernel_rfl) y

/-- What case A leaves in output 5's staging buffer. -/
def out1_A_5 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S1664x512 .fp8e4m3 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 x0 x1 x2 x3).2.1)

/-- Case A's pieces for output 6 tile its block, so they cover it. -/
theorem cover1_A_6 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S13x512.Idx) :
    ∃ pc ∈ (kernelRun1_A c i arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).2.2.1 S1x512.size (by sl_kernel_rfl) y

/-- What case A leaves in output 6's staging buffer. -/
def out1_A_6 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S13x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 x0 x1 x2 x3).2.2.1)

/-- Case A's pieces for scratch `arg9`, which the kernel carries between points, cover it. -/
theorem scover1_A_0 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S1536x512.Idx) :
    ∃ pc ∈ (kernelRun1_A c i arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).2.2.2.1 S128x512.size (by sl_kernel_rfl) y

/-- What case A leaves in scratch `arg9`. -/
def sout1_A_0 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S1536x512 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 x0 x1 x2 x3).2.2.2.1)

/-- Case A's pieces for scratch `arg10`, which the kernel carries between points, cover it. -/
theorem scover1_A_1 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S1x512.Idx) :
    ∃ pc ∈ (kernelRun1_A c i arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).2.2.2.2.1 S1x512.size (by sl_kernel_rfl) y

/-- What case A leaves in scratch `arg10`. -/
def sout1_A_1 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S1x512 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 x0 x1 x2 x3).2.2.2.2.1)

end Regions

end Cert.Kernel.Gen

end
-- ==== Proof.Kernel.RunB.lean ====
/- Region 1 at a point that reuses the panel's quantised weights. -/
module

public import Idealize.ShloMosaic.Lib.Pipeline.TableIdle
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.Region1

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces IN CASE B, WITH the proof that on whole staging memrefs. -/
noncomputable def kernelRun1_B (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) :
    Σ' (L4 : List (View.Piece (Elt F) S1536x512 .bf16)), Σ' (L5 : List (View.Piece (Elt F) S1664x512 .fp8e4m3)), Σ' (L6 : List (View.Piece (Elt F) S13x512 .f32)), Σ' (LS0 : List (View.Piece (Elt F) S1536x512 .bf16)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo5 ∗ owns (c : Thread nD τ) arg8 fullShare xo6 ∗ owns (c : Thread nD τ) arg9 fullShare xs0 ∗ owns (c : Thread nD τ) arg10 fullShare xs1) -∗ K ⟨⟩))
          ⊢ wp frame (wpE (defs₀ (F := F)) Variants.none c none) E (cc1_quantised_matmul i arg2 harg2 arg3 harg3 arg4 harg4 arg5 harg5 arg6 harg6 arg7 harg7 arg8 harg8 arg9 harg9 arg10 harg10) K } := by
  refine ⟨?_, [], [], [], [], fun E K => ?run⟩
  case run =>
    simp only [cc1_quantised_matmul_eq_skeleton]; unfold cc1_quantised_matmul_skel
    simp only [k1_part26_eq_skeleton, k1_part27_eq_skeleton, k1_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0; obtain rfl := harg10.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

/-- Case B's pieces for output 4 tile its block, so they cover it. -/
theorem cover1_B_4 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) (y : S1536x512.Idx) :
    ∃ pc ∈ (kernelRun1_B c i arg2 harg2 arg3 harg3 arg4 harg4 arg5 harg5 arg6 harg6 arg7 harg7 arg8 harg8 arg9 harg9 arg10 harg10 hc0 x0 x1 x2 x3 xo5 xo6 xs0 xs1).1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 xo5 xo6 xs0 xs1).1 S256x512.size (by sl_kernel_rfl) y

/-- What case B leaves in output 4's staging buffer. -/
def out1_B_4 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S1536x512 .bf16 :=
  VO1_4.read (Elt F) (VO1_4.writes (Elt F) VO1_4.junk (kernelRun1_B c i arg2 harg2 arg3 harg3 arg4 harg4 arg5 harg5 arg6 harg6 arg7 harg7 arg8 harg8 arg9 harg9 arg10 harg10 hc0 x0 x1 x2 x3 xo5 xo6 xs0 xs1).1)

/-- Case B stores nothing into output 5, a live window. -/
def out1_B_5 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S1664x512 .fp8e4m3 := xo5

/-- Case B stores nothing into output 6, a live window. -/
def out1_B_6 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S13x512 .f32 := xo6

/-- Case B stores nothing into scratch `arg9`. -/
def sout1_B_0 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S1536x512 .bf16 := xs0

/-- Case B stores nothing into scratch `arg10`. -/
def sout1_B_1 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S1x512 .f32 := xs1

end Regions

end Cert.Kernel.Gen

end
-- ==== Proof.Kernel.Outs.lean ====
/- Region 1 point by point: what the outputs and the carried scratch hold. -/
module

public import Idealize.ShloMosaic.Lib.Pipeline.TableIdle
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.RunA
public import proofs.«01_k».proof.Proof.Kernel.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! ## What the outputs hold after each point -/

/-- THE ACCUMULATION. -/
def outsAt1 (c : Dev nD) : (n : ℕ) → n < cfg1.N → Vec F S1536x512 .bf16 × Vec F S1664x512 .fp8e4m3 × Vec F S13x512 .f32 × Vec F S1536x512 .bf16 × Vec F S1x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

/-- `outsAt1` at a point of case A. -/
theorem outsAt1_A (c : Dev nD) (t : Fin cfg1.N) (h0 : t.val % 4 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B. -/
theorem outsAt1_B (c : Dev nD) (t : Fin cfg1.N) (h0 : ¬t.val % 4 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2.2.2.1) ∗ owns (c : Thread nD τ) scM1_1 fullShare ((outsAt1 V c n hn).2.2.2.2)) ∗ (∃ r, prngReg c r))

theorem PhiS_zero (c : Dev nD) (n : ℕ) (h : n ≤ cfg1.N) (hz : n = 0) : PhiS V c n h = Pipeline.ΦA spec1 c := by
  subst hz; rfl

/-- After point `n`. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2.2.2.1) ∗ owns (c : Thread nD τ) scM1_1 fullShare ((outsAt1 V c n hn).2.2.2.2)) ∗ (∃ r, prngReg c r)) := rfl

/-- Before a point that is not the first. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2.2.2.1) ∗ owns (c : Thread nD τ) scM1_1 fullShare ((outsAt1 V c (n - 1) (by omega)).2.2.2.2)) ∗ (∃ r, prngReg c r)) := by
  cases n with
  | zero => exact absurd rfl hz
  | succ n => rfl

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS V c t.val (Nat.le_of_lt_succ t.isLt)
  q _ := fullShare
  owed _ := 0

/-- The proof data's arrays are the region-entry contents, by projecting the definition. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Output 5's contents CARRY through the points that leave it idle. -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 216 := lt_of_lt_of_eq t.isLt (show cfg1.N = 216 from N_1)
  rw [after1_5, after1_5]
  by_cases h0 : t.val % 4 = 0
  · rw [liveAt1_5_A t ((hcond1_0 t).mpr h0)] at hi
    exact absurd hi Bool.false_ne_true
  · rw [outsAt1_B V c t h0]; rfl

/-- Output 6's contents CARRY through the points that leave it idle. -/
theorem hcarry1_6 (c : Dev nD) : ∀ (t : Fin cfg1.N) (_ : t.val ≠ 0), cfg1.idle 6 (grid1.coords t) = true → cfg1.fresh 6 t.val = false →
    (dat1 V c).after 6 t = (dat1 V c).after 6 ⟨t.val - 1, by omega⟩ := by
  intro t _ hi _
  have hN : t.val < 216 := lt_of_lt_of_eq t.isLt (show cfg1.N = 216 from N_1)
  rw [after1_6, after1_6]
  by_cases h0 : t.val % 4 = 0
  · rw [liveAt1_6_A t ((hcond1_0 t).mpr h0)] at hi
    exact absurd hi Bool.false_ne_true
  · rw [outsAt1_B V c t h0]; rfl
/-- At a point of case B output 5's current staging buffer holds what the point before left. -/
theorem before1_5_B (c : Dev nD) (t : Fin cfg1.N) (h0 : ¬t.val % 4 = 0) (d) :
    (dat1 V c).before 5 t d = (outsAt1 V c (t.val - 1) (Nat.lt_of_le_of_lt (Nat.sub_le _ _) t.isLt)).2.1 := by
  rw [Dat.before_out_traj _ 5 rfl (fun _ _ => rfl) (hcarry1_5 V c) t.val t rfl d,
    if_neg (by rw [notFresh1_5_B t (fun h => h0 ((hcond1_0 t).mp h))]; exact Bool.false_ne_true)]
  dsimp only [dat1]
/-- At a point of case B output 6's current staging buffer holds what the point before left. -/
theorem before1_6_B (c : Dev nD) (t : Fin cfg1.N) (h0 : ¬t.val % 4 = 0) (d) :
    (dat1 V c).before 6 t d = (outsAt1 V c (t.val - 1) (Nat.lt_of_le_of_lt (Nat.sub_le _ _) t.isLt)).2.2.1 := by
  rw [Dat.before_out_traj _ 6 rfl (fun _ _ => rfl) (hcarry1_6 V c) t.val t rfl d,
    if_neg (by rw [notFresh1_6_B t (fun h => h0 ((hcond1_0 t).mp h))]; exact Bool.false_ne_true)]
  dsimp only [dat1]

/-- At a point of case B output 5's buffer is left as found, which is the contents named for the point. -/
theorem leaves1_5_B (c : Dev nD) (t : Fin cfg1.N) (h0 : ¬t.val % 4 = 0) :
    (dat1 V c).leavesExact 5 t = owns (c : Thread nD τ) (ms1_5 t) fullShare (outsAt1 V c t.val t.isLt).2.1 := by
  have hi := idleAt1_5_B t (fun h => h0 ((hcond1_0 t).mp h))
  have hb : ∀ d, (dat1 V c).before 5 t d = (outsAt1 V c t.val t.isLt).2.1 := fun d => by
    rw [before1_5_B V c t h0 d, outsAt1_B V c t h0]; rfl
  cases hf : (cfg1.win 5).flush t with
  | false =>
    rw [Dat.leavesExact_idle _ 5 t hi hf]
    refine BI.Entails.antisymm ?_ ?_
    · show (_ : sProp 𝕄) ⊢ (_ : sProp 𝕄)
      iintro ⟨%d, H⟩
      rw [← hb d]
      iexact H
    · show (_ : sProp 𝕄) ⊢ (_ : sProp 𝕄)
      iintro H
      iexists (outsAt1 V c t.val t.isLt).2.1
      rw [hb]
      iexact H
  | true =>
    unfold Dat.leavesExact; rw [hi, hf, ← after1_5]

/-- At a point of case B output 6's buffer is left as found, which is the contents named for the point. -/
theorem leaves1_6_B (c : Dev nD) (t : Fin cfg1.N) (h0 : ¬t.val % 4 = 0) :
    (dat1 V c).leavesExact 6 t = owns (c : Thread nD τ) (ms1_6 t) fullShare (outsAt1 V c t.val t.isLt).2.2.1 := by
  have hi := idleAt1_6_B t (fun h => h0 ((hcond1_0 t).mp h))
  have hb : ∀ d, (dat1 V c).before 6 t d = (outsAt1 V c t.val t.isLt).2.2.1 := fun d => by
    rw [before1_6_B V c t h0 d, outsAt1_B V c t h0]; rfl
  cases hf : (cfg1.win 6).flush t with
  | false =>
    rw [Dat.leavesExact_idle _ 6 t hi hf]
    refine BI.Entails.antisymm ?_ ?_
    · show (_ : sProp 𝕄) ⊢ (_ : sProp 𝕄)
      iintro ⟨%d, H⟩
      rw [← hb d]
      iexact H
    · show (_ : sProp 𝕄) ⊢ (_ : sProp 𝕄)
      iintro H
      iexists (outsAt1 V c t.val t.isLt).2.2.1
      rw [hb]
      iexact H
  | true =>
    unfold Dat.leavesExact; rw [hi, hf, ← after1_6]

end Regions

end Cert.Kernel.Gen

end
-- ==== Proof.Kernel.Body1.lean ====
/- Region 1: the body's obligation at every point. -/
module

public import Idealize.ShloMosaic.Lib.Pipeline.TableIdle
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.Outs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 6400000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 216 := lt_of_lt_of_eq t.isLt (show cfg1.N = 216 from N_1)
  by_cases h0 : t.val % 4 = 0
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5_A t ((hcond1_0 t).mpr h0)], after1_5]
    rw [show (dat1 V c).leavesExact 6 t = owns (c : Thread nD τ) (ms1_6 t) fullShare ((dat1 V c).after 6 t) from by
      unfold Dat.leavesExact; rw [liveAt1_6_A t ((hcond1_0 t).mpr h0)], after1_6]
    by_cases hz : t.val = 0
    · rw [PhiS_castSucc V c t, PhiS_zero V c _ _ hz, PhiA1_eq]
      rw [outsAt1_A V c t h0]
      unfold out1_A_4 out1_A_5 out1_A_6 sout1_A_0 sout1_A_1; (try dsimp only)
      iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HR0 HR1 HR2 HR3 HR4 HR5 HR6 HR7 HR8 HR9 HS0 HS1 Hg]
      · isplitl [HR0 HR1 HR2 HR3 HR4 HR5 HR6 HR7 HR8 HR9 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _ _)
    · rw [PhiS_castSucc V c t, PhiS_pos V c _ _ hz]
      rw [outsAt1_A V c t h0]
      unfold out1_A_4 out1_A_5 out1_A_6 sout1_A_0 sout1_A_1; (try dsimp only)
      iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      isplitl [HS1]; · iexists _; iexact HS1
      iintro ⟨H0, H1, H2, H3, ⟨%e4, H4⟩, ⟨%e5, H5⟩, ⟨%e6, H6⟩, ⟨%es0, HS0⟩, ⟨%es1, HS1⟩⟩
      isplitl [HR0 HR1 HR2 HR3 HR4 HR5 HR6 HR7 HR8 HR9 HS0 HS1 Hg]
      · isplitl [HR0 HR1 HR2 HR3 HR4 HR5 HR6 HR7 HR8 HR9 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _ _)
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [leaves1_5_B V c t h0]
    rw [leaves1_6_B V c t h0]
    by_cases hz : t.val = 0
    · exfalso; have hN : t.val < 216 := lt_of_lt_of_eq t.isLt (show cfg1.N = 216 from N_1); omega
    · rw [PhiS_castSucc V c t, PhiS_pos V c _ _ hz]
      rw [outsAt1_B V c t h0]
      simp only [before1_5_B V c t h0, before1_6_B V c t h0]
      unfold out1_B_4 out1_B_5 out1_B_6 sout1_B_0 sout1_B_1; (try dsimp only)
      iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, HS0, HS1⟩
      isplitl [HR0 HR1 HR2 HR3 HR4 HR5 HR6 HR7 HR8 HR9 HS0 HS1 Hg]
      · isplitl [HR0 HR1 HR2 HR3 HR4 HR5 HR6 HR7 HR8 HR9 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _ _)
      isplitl [H5]; · iexact H5
      iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HS0, HS1⟩, Hg⟩
  isplitl [HR0 HR1 HR2 HR3 HR4 HR5 HR6 HR7 HR8 HR9 HS0 HS1]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HS0]
    · iexists _; iexact HS0
    iexists _; iexact HS1
  iexact Hg

/-- The same after the last point. -/
theorem hout (c : Dev nD) : (dat1 V c).Φ (Fin.last cfg1.N) ⊢ Pipeline.ΦA spec1 c :=
  Phi_out V c _ (by rw [Fin.val_last]; have : cfg1.N = 216 := N_1; omega)

end Regions

end Cert.Kernel.Gen

end
-- ==== Proof.Kernel.Run.lean ====
/- The run of the whole program: host stretches and the two regions in order. -/
module

public import Idealize.ShloMosaic.Lib.Pipeline.TableIdle
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Kernel.Region0
public import proofs.«01_k».proof.Proof.Kernel.Body1

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return -/

/-- @main's argument arrays, as TensorCore references. -/
abbrev argRefs : List (Ref sig .tc) := [main_arg0, main_arg1]

/-! ## The host stretches: none allocates a buffer, and each lists the references its operations write, in order, so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4, main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references. -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references. -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)

/-! ## The proof data family and the thread state -/

/-- The prefetched tables' admissible contents. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (Gen.hin (V2 m ρ) c)
    unfold Pipeline.ΦA
    iintro ⟨Hp, -, Hr⟩
    isplitl [Hr]; · iexact Hr
    iexact Hp
  hout c := by
    rw [Pipeline.ownSems0_none]
    refine BI.BIBase.Entails.trans (Gen.hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c)⟩), funext fun g => hz g (.inr (no_unscoped g.2))⟩)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h => h.1) (frame m ρ)

end Cert.Kernel.Gen

end
-- ==== Proof.KernelIdeal.Region0.lean ====
/- Region 0, the quantiser of the activations: what a grid point leaves, and the body's triple. -/
module

public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quantise_x`, at the entry contents `V` -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1664 := Rect.unit (s := S512x1664) ![0, 0] S512x128.size inb_S512x1664_S512x128_0_0
abbrev r0_1 : Rect S512x1536 := Rect.unit (s := S512x1536) ![0, 0] S512x128.size inb_S512x1536_S512x128_0_0
abbrev r0_2 : Rect S512x1664 := Rect.unit (s := S512x1664) ![0, 128] S512x128.size inb_S512x1664_S512x128_0_128
abbrev r0_3 : Rect S512x1536 := Rect.unit (s := S512x1536) ![0, 128] S512x128.size inb_S512x1536_S512x128_0_128
abbrev r0_4 : Rect S512x1664 := Rect.unit (s := S512x1664) ![0, 256] S512x128.size inb_S512x1664_S512x128_0_256
abbrev r0_5 : Rect S512x1536 := Rect.unit (s := S512x1536) ![0, 256] S512x128.size inb_S512x1536_S512x128_0_256
abbrev r0_6 : Rect S512x1664 := Rect.unit (s := S512x1664) ![0, 384] S512x128.size inb_S512x1664_S512x128_0_384
abbrev r0_7 : Rect S512x1536 := Rect.unit (s := S512x1536) ![0, 384] S512x128.size inb_S512x1536_S512x128_0_384
abbrev r0_8 : Rect S512x1664 := Rect.unit (s := S512x1664) ![0, 512] S512x128.size inb_S512x1664_S512x128_0_512
abbrev r0_9 : Rect S512x1536 := Rect.unit (s := S512x1536) ![0, 512] S512x128.size inb_S512x1536_S512x128_0_512
abbrev r0_10 : Rect S512x1664 := Rect.unit (s := S512x1664) ![0, 640] S512x128.size inb_S512x1664_S512x128_0_640
abbrev r0_11 : Rect S512x1536 := Rect.unit (s := S512x1536) ![0, 640] S512x128.size inb_S512x1536_S512x128_0_640
abbrev r0_12 : Rect S512x1664 := Rect.unit (s := S512x1664) ![0, 768] S512x128.size inb_S512x1664_S512x128_0_768
abbrev r0_13 : Rect S512x1536 := Rect.unit (s := S512x1536) ![0, 768] S512x128.size inb_S512x1536_S512x128_0_768
abbrev r0_14 : Rect S512x1664 := Rect.unit (s := S512x1664) ![0, 896] S512x128.size inb_S512x1664_S512x128_0_896
abbrev r0_15 : Rect S512x1536 := Rect.unit (s := S512x1536) ![0, 896] S512x128.size inb_S512x1536_S512x128_0_896
abbrev r0_16 : Rect S512x1664 := Rect.unit (s := S512x1664) ![0, 1024] S512x128.size inb_S512x1664_S512x128_0_1024
abbrev r0_17 : Rect S512x1536 := Rect.unit (s := S512x1536) ![0, 1024] S512x128.size inb_S512x1536_S512x128_0_1024
abbrev r0_18 : Rect S512x1664 := Rect.unit (s := S512x1664) ![0, 1152] S512x128.size inb_S512x1664_S512x128_0_1152
abbrev r0_19 : Rect S512x1536 := Rect.unit (s := S512x1536) ![0, 1152] S512x128.size inb_S512x1536_S512x128_0_1152
abbrev r0_20 : Rect S512x1664 := Rect.unit (s := S512x1664) ![0, 1280] S512x128.size inb_S512x1664_S512x128_0_1280
abbrev r0_21 : Rect S512x1536 := Rect.unit (s := S512x1536) ![0, 1280] S512x128.size inb_S512x1536_S512x128_0_1280
abbrev r0_22 : Rect S512x1664 := Rect.unit (s := S512x1664) ![0, 1408] S512x128.size inb_S512x1664_S512x128_0_1408
abbrev r0_23 : Rect S512x1536 := Rect.unit (s := S512x1536) ![0, 1408] S512x128.size inb_S512x1536_S512x128_0_1408
abbrev r0_24 : Rect S512x1664 := Rect.unit (s := S512x1664) ![0, 1536] S512x128.size inb_S512x1664_S512x128_0_1536
abbrev r0_25 : Rect S512x128 := Rect.unit (s := S512x128) ![0, 0] S512x128.size inb_S512x128_S512x128_0_0
abbrev r0_26 : Rect S512x13 := Rect.unit (s := S512x13) ![0, 0] S512x13.size inb_S512x13_S512x13_0_0

/-! ## What the body leaves in each output window's buffer -/

/-! ### Values of the body that the stores' payloads, spelt out, would write more than once Each is a vector the body binds, stated over the input windows' blocks and numbered on from the skeleton's payload functions, so that `out0_W` and the values after it name it instead of spelling it out; the comment after each is the printed function's name for the value. -/

def k0_pay133 (x0 : Vec F S512x1664 .bf16) : IVec S512x128 32 :=
  iota .tc S512x128 32 [1] iota_S512x128_d1_w32 -- `v0`
def k0_pay134 (x0 : Vec F S512x1664 .bf16) : FVec F S512x128 .bf16 :=
  k0_pay4 (View.ld x0 r0_0) -- `v3`
def k0_pay135 (x0 : Vec F S512x1664 .bf16) : FVec F S512x128 .f32 :=
  k0_pay5 (View.ld x0 r0_0) -- `v11`
def k0_pay136 (x0 : Vec F S512x1664 .bf16) : IVec S512x128 32 :=
  k0_pay6 (View.ld x0 r0_0) -- `v42`
def k0_pay137 (x0 : Vec F S512x1664 .bf16) : IVec S512x128 32 :=
  k0_pay7 (View.ld x0 r0_0) -- `v44`
def k0_pay138 (x0 : Vec F S512x1664 .bf16) : FVec F S512x128 .f32 :=
  k0_pay8 (View.ld x0 r0_0) -- `v45`
def k0_pay139 (x0 : Vec F S512x1664 .bf16) : FVec F S512x128 .bf16 :=
  k0_pay14 (View.ld x0 r0_2) -- `v84`
def k0_pay140 (x0 : Vec F S512x1664 .bf16) : FVec F S512 .f32 :=
  k0_pay15 (View.ld x0 r0_2) -- `v87`
def k0_pay141 (x0 : Vec F S512x1664 .bf16) : IVec S512x128 32 :=
  k0_pay16 (k0_pay140 x0) -- `v133`
def k0_pay142 (x0 : Vec F S512x1664 .bf16) : IVec S512x128 1 :=
  k0_pay17 (k0_pay140 x0) -- `v135`
def k0_pay143 (x0 : Vec F S512x1664 .bf16) : FVec F S512x128 .bf16 :=
  k0_pay23 (View.ld x0 r0_4) -- `v165`
def k0_pay144 (x0 : Vec F S512x1664 .bf16) : FVec F S512x128 .f32 :=
  k0_pay24 (View.ld x0 r0_4) -- `v173`
def k0_pay145 (x0 : Vec F S512x1664 .bf16) : IVec S512x128 32 :=
  k0_pay25 -- `v174`
def k0_pay146 (x0 : Vec F S512x1664 .bf16) : IVec S512x128 32 :=
  k0_pay26 -- `v176`
def k0_pay147 (x0 : Vec F S512x1664 .bf16) : FVec F S512x128 .f32 :=
  k0_pay27 (F := F) -- `v177`
def k0_pay148 (x0 : Vec F S512x1664 .bf16) : IVec S512x128 32 :=
  k0_pay28 (k0_pay144 x0) (k0_pay145 x0) (k0_pay146 x0) (k0_pay147 x0) -- `v221`
def k0_pay149 (x0 : Vec F S512x1664 .bf16) : FVec F S512x128 .f32 :=
  k0_pay29 (k0_pay144 x0) (k0_pay145 x0) (k0_pay146 x0) (k0_pay147 x0) -- `v224`
def k0_pay150 (x0 : Vec F S512x1664 .bf16) : IVec S512x128 32 :=
  k0_pay30 -- `v225`
def k0_pay151 (x0 : Vec F S512x1664 .bf16) : FVec F S512x128 .f32 :=
  k0_pay35 (View.ld x0 r0_6) -- `v254`
def k0_pay152 (x0 : Vec F S512x1664 .bf16) : IVec S512x128 32 :=
  k0_pay36 (View.ld x0 r0_6) -- `v265`
def k0_pay153 (x0 : Vec F S512x1664 .bf16) : IVec S512x128 32 :=
  k0_pay37 (View.ld x0 r0_6) -- `v267`
def k0_pay154 (x0 : Vec F S512x1664 .bf16) : FVec F S512x128 .f32 :=
  k0_pay38 (View.ld x0 r0_6) -- `v268`
def k0_pay155 (x0 : Vec F S512x1664 .bf16) : FVec F S512x128 .f32 :=
  k0_pay40 (k0_pay151 x0) (k0_pay152 x0) (k0_pay153 x0) (k0_pay154 x0) -- `v305`
def k0_pay156 (x0 : Vec F S512x1664 .bf16) : FVec F S512x128 .bf16 :=
  k0_pay41 (k0_pay34 (View.ld x0 r0_6)) (k0_pay151 x0) (k0_pay152 x0) (k0_pay153 x0) (k0_pay154 x0) -- `v316`
def k0_pay157 (x0 : Vec F S512x1664 .bf16) : FVec F S512x128 .bf16 :=
  k0_pay45 (View.ld x0 r0_8) -- `v327`
def k0_pay158 (x0 : Vec F S512x1664 .bf16) : FVec F S512x128 .f32 :=
  k0_pay46 (View.ld x0 r0_8) -- `v335`
def k0_pay159 (x0 : Vec F S512x1664 .bf16) : IVec S512x128 32 :=
  k0_pay47 (View.ld x0 r0_8) -- `v356`
def k0_pay160 (x0 : Vec F S512x1664 .bf16) : IVec S512x128 32 :=
  k0_pay48 (View.ld x0 r0_8) -- `v358`
def k0_pay161 (x0 : Vec F S512x1664 .bf16) : FVec F S512x128 .f32 :=
  k0_pay49 (View.ld x0 r0_8) -- `v359`
def k0_pay162 (x0 : Vec F S512x1664 .bf16) : FVec F S512x128 .bf16 :=
  k0_pay55 (View.ld x0 r0_10) -- `v408`
def k0_pay163 (x0 : Vec F S512x1664 .bf16) : FVec F S512x128 .f32 :=
  k0_pay56 (View.ld x0 r0_10) -- `v416`
def k0_pay164 (x0 : Vec F S512x1664 .bf16) : IVec S512x128 32 :=
  k0_pay57 (View.ld x0 r0_10) -- `v447`
def k0_pay165 (x0 : Vec F S512x1664 .bf16) : IVec S512x128 32 :=
  k0_pay58 (View.ld x0 r0_10) -- `v449`
def k0_pay166 (x0 : Vec F S512x1664 .bf16) : FVec F S512x128 .f32 :=
  k0_pay59 (View.ld x0 r0_10) -- `v450`
def k0_pay167 (x0 : Vec F S512x1664 .bf16) : FVec F S512x128 .bf16 :=
  k0_pay65 (View.ld x0 r0_12) -- `v489`
def k0_pay168 (x0 : Vec F S512x1664 .bf16) : FVec F S512 .f32 :=
  k0_pay66 (View.ld x0 r0_12) -- `v492`
def k0_pay169 (x0 : Vec F S512x1664 .bf16) : IVec S512x128 32 :=
  k0_pay67 (k0_pay168 x0) -- `v538`
def k0_pay170 (x0 : Vec F S512x1664 .bf16) : IVec S512x128 1 :=
  k0_pay68 (k0_pay168 x0) -- `v540`
def k0_pay171 (x0 : Vec F S512x1664 .bf16) : FVec F S512x128 .bf16 :=
  k0_pay74 (View.ld x0 r0_14) -- `v570`
def k0_pay172 (x0 : Vec F S512x1664 .bf16) : FVec F S512x128 .f32 :=
  k0_pay75 (View.ld x0 r0_14) -- `v578`
def k0_pay173 (x0 : Vec F S512x1664 .bf16) : IVec S512x128 32 :=
  k0_pay76 -- `v579`
def k0_pay174 (x0 : Vec F S512x1664 .bf16) : IVec S512x128 32 :=
  k0_pay77 -- `v581`
def k0_pay175 (x0 : Vec F S512x1664 .bf16) : FVec F S512x128 .f32 :=
  k0_pay78 (F := F) -- `v582`
def k0_pay176 (x0 : Vec F S512x1664 .bf16) : IVec S512x128 32 :=
  k0_pay79 (k0_pay172 x0) (k0_pay173 x0) (k0_pay174 x0) (k0_pay175 x0) -- `v626`
def k0_pay177 (x0 : Vec F S512x1664 .bf16) : FVec F S512x128 .f32 :=
  k0_pay80 (k0_pay172 x0) (k0_pay173 x0) (k0_pay174 x0) (k0_pay175 x0) -- `v629`
def k0_pay178 (x0 : Vec F S512x1664 .bf16) : IVec S512x128 32 :=
  k0_pay81 -- `v630`
def k0_pay179 (x0 : Vec F S512x1664 .bf16) : FVec F S512x128 .f32 :=
  k0_pay86 (View.ld x0 r0_16) -- `v659`
def k0_pay180 (x0 : Vec F S512x1664 .bf16) : IVec S512x128 32 :=
  k0_pay87 (View.ld x0 r0_16) -- `v670`
def k0_pay181 (x0 : Vec F S512x1664 .bf16) : IVec S512x128 32 :=
  k0_pay88 (View.ld x0 r0_16) -- `v672`
def k0_pay182 (x0 : Vec F S512x1664 .bf16) : FVec F S512x128 .f32 :=
  k0_pay89 (View.ld x0 r0_16) -- `v673`
def k0_pay183 (x0 : Vec F S512x1664 .bf16) : FVec F S512x128 .f32 :=
  k0_pay91 (k0_pay179 x0) (k0_pay180 x0) (k0_pay181 x0) (k0_pay182 x0) -- `v710`
def k0_pay184 (x0 : Vec F S512x1664 .bf16) : FVec F S512x128 .bf16 :=
  k0_pay92 (k0_pay85 (View.ld x0 r0_16)) (k0_pay179 x0) (k0_pay180 x0) (k0_pay181 x0) (k0_pay182 x0) -- `v721`
def k0_pay185 (x0 : Vec F S512x1664 .bf16) : FVec F S512x128 .bf16 :=
  k0_pay96 (View.ld x0 r0_18) -- `v732`
def k0_pay186 (x0 : Vec F S512x1664 .bf16) : FVec F S512x128 .f32 :=
  k0_pay97 (View.ld x0 r0_18) -- `v740`
def k0_pay187 (x0 : Vec F S512x1664 .bf16) : IVec S512x128 32 :=
  k0_pay98 (View.ld x0 r0_18) -- `v761`
def k0_pay188 (x0 : Vec F S512x1664 .bf16) : IVec S512x128 32 :=
  k0_pay99 (View.ld x0 r0_18) -- `v763`
def k0_pay189 (x0 : Vec F S512x1664 .bf16) : FVec F S512x128 .f32 :=
  k0_pay100 (View.ld x0 r0_18) -- `v764`
def k0_pay190 (x0 : Vec F S512x1664 .bf16) : FVec F S512x128 .bf16 :=
  k0_pay106 (View.ld x0 r0_20) -- `v813`
def k0_pay191 (x0 : Vec F S512x1664 .bf16) : FVec F S512x128 .f32 :=
  k0_pay107 (View.ld x0 r0_20) -- `v821`
def k0_pay192 (x0 : Vec F S512x1664 .bf16) : IVec S512x128 32 :=
  k0_pay108 (View.ld x0 r0_20) -- `v852`
def k0_pay193 (x0 : Vec F S512x1664 .bf16) : IVec S512x128 32 :=
  k0_pay109 (View.ld x0 r0_20) -- `v854`
def k0_pay194 (x0 : Vec F S512x1664 .bf16) : FVec F S512x128 .f32 :=
  k0_pay110 (View.ld x0 r0_20) -- `v855`
def k0_pay195 (x0 : Vec F S512x1664 .bf16) : FVec F S512x128 .bf16 :=
  k0_pay116 (View.ld x0 r0_22) -- `v894`
def k0_pay196 (x0 : Vec F S512x1664 .bf16) : FVec F S512 .f32 :=
  k0_pay117 (View.ld x0 r0_22) -- `v897`
def k0_pay197 (x0 : Vec F S512x1664 .bf16) : IVec S512x128 32 :=
  k0_pay118 (k0_pay196 x0) -- `v943`
def k0_pay198 (x0 : Vec F S512x1664 .bf16) : IVec S512x128 1 :=
  k0_pay119 (k0_pay196 x0) -- `v945`
def k0_pay199 (x0 : Vec F S512x1664 .bf16) : FVec F S512x128 .f32 :=
  k0_pay126 (View.ld x0 r0_24) -- `v983`
def k0_pay200 (x0 : Vec F S512x1664 .bf16) : IVec S512x128 32 :=
  k0_pay127 -- `v984`
def k0_pay201 (x0 : Vec F S512x1664 .bf16) : IVec S512x128 32 :=
  k0_pay128 -- `v986`
def k0_pay202 (x0 : Vec F S512x1664 .bf16) : FVec F S512x128 .f32 :=
  k0_pay129 (F := F) -- `v987`
def k0_pay203 (x0 : Vec F S512x1664 .bf16) : FVec F S512x128 .f32 :=
  k0_pay131 (k0_pay199 x0) (k0_pay200 x0) (k0_pay201 x0) (k0_pay202 x0) -- `v1034`

/-- Window 1's staging buffer after the body, from the input windows' blocks. -/
def out0_1 (x0 : Vec F S512x1664 .bf16) : Vec F S512x1664 .fp8e4m3 :=
  View.canon [⟨r0_24, k0_pay1 (k0_pay125 (View.ld x0 r0_24)) (k0_pay130 (k0_pay199 x0) (k0_pay200 x0) (k0_pay201 x0) (k0_pay202 x0)) k0_pay132⟩,
    ⟨r0_22, k0_pay122 (k0_pay195 x0) (k0_pay197 x0) (k0_pay198 x0) 2139095040#32⟩,
    ⟨r0_20, k0_pay113 (k0_pay190 x0) (k0_pay191 x0) (k0_pay192 x0) (k0_pay193 x0) (k0_pay194 x0)⟩,
    ⟨r0_18, k0_pay103 (k0_pay185 x0) (k0_pay186 x0) (k0_pay187 x0) (k0_pay188 x0) (k0_pay189 x0)⟩,
    ⟨r0_16, k0_pay93 (k0_pay184 x0)⟩,
    ⟨r0_14, k0_pay82 (k0_pay171 x0) (k0_pay176 x0) (k0_pay178 x0)⟩,
    ⟨r0_12, k0_pay71 (k0_pay167 x0) (k0_pay169 x0) (k0_pay170 x0) 2139095040#32⟩,
    ⟨r0_10, k0_pay62 (k0_pay162 x0) (k0_pay163 x0) (k0_pay164 x0) (k0_pay165 x0) (k0_pay166 x0)⟩,
    ⟨r0_8, k0_pay52 (k0_pay157 x0) (k0_pay158 x0) (k0_pay159 x0) (k0_pay160 x0) (k0_pay161 x0)⟩,
    ⟨r0_6, k0_pay42 (k0_pay156 x0)⟩,
    ⟨r0_4, k0_pay31 (k0_pay143 x0) (k0_pay148 x0) (k0_pay150 x0)⟩,
    ⟨r0_2, k0_pay20 (k0_pay139 x0) (k0_pay141 x0) (k0_pay142 x0) 2139095040#32⟩,
    ⟨r0_0, k0_pay11 (k0_pay134 x0) (k0_pay135 x0) (k0_pay136 x0) (k0_pay137 x0) (k0_pay138 x0)⟩]

/-- Its stores tile the buffer, so they cover it. -/
theorem cover0_1 (p0 : Vec F S512x128 .fp8e4m3) (p1 : Vec F S512x128 .fp8e4m3) (p2 : Vec F S512x128 .fp8e4m3) (p3 : Vec F S512x128 .fp8e4m3) (p4 : Vec F S512x128 .fp8e4m3) (p5 : Vec F S512x128 .fp8e4m3) (p6 : Vec F S512x128 .fp8e4m3) (p7 : Vec F S512x128 .fp8e4m3) (p8 : Vec F S512x128 .fp8e4m3) (p9 : Vec F S512x128 .fp8e4m3) (p10 : Vec F S512x128 .fp8e4m3) (p11 : Vec F S512x128 .fp8e4m3) (p12 : Vec F S512x128 .fp8e4m3) (y : S512x1664.Idx) :
    ∃ pc ∈ ([⟨r0_24, p0⟩, ⟨r0_22, p1⟩, ⟨r0_20, p2⟩, ⟨r0_18, p3⟩, ⟨r0_16, p4⟩, ⟨r0_14, p5⟩, ⟨r0_12, p6⟩, ⟨r0_10, p7⟩, ⟨r0_8, p8⟩, ⟨r0_6, p9⟩, ⟨r0_4, p10⟩, ⟨r0_2, p11⟩, ⟨r0_0, p12⟩] : List (View.Piece (Elt F) S512x1664 .fp8e4m3)), y ∈ pc.1.set :=
  View.cover_of_tiled [⟨r0_24, p0⟩, ⟨r0_22, p1⟩, ⟨r0_20, p2⟩, ⟨r0_18, p3⟩, ⟨r0_16, p4⟩, ⟨r0_14, p5⟩, ⟨r0_12, p6⟩, ⟨r0_10, p7⟩, ⟨r0_8, p8⟩, ⟨r0_6, p9⟩, ⟨r0_4, p10⟩, ⟨r0_2, p11⟩, ⟨r0_0, p12⟩] S512x128.size (by rfl) y

/-- Window 2's staging buffer after the body, from the input windows' blocks. -/
def out0_2 (x0 : Vec F S512x1664 .bf16) : Vec F S512x13 .f32 :=
  View.canon [⟨r0_26, k0_pay2 (k0_pay133 x0) (k0_pay123 (k0_pay133 x0) (k0_pay114 (k0_pay133 x0) (k0_pay104 (k0_pay133 x0) (k0_pay94 (k0_pay133 x0) (k0_pay83 (k0_pay133 x0) (k0_pay72 (k0_pay133 x0) (k0_pay63 (k0_pay133 x0) (k0_pay53 (k0_pay133 x0) (k0_pay43 (k0_pay133 x0) (k0_pay32 (k0_pay133 x0) (k0_pay21 (k0_pay133 x0) (k0_pay12 (k0_pay133 x0) (k0_pay3 (F := F)) (k0_pay135 x0) (k0_pay136 x0) (k0_pay137 x0) (k0_pay138 x0)) (k0_pay141 x0) (k0_pay142 x0) 2139095040#32) (k0_pay149 x0)) (k0_pay155 x0)) (k0_pay158 x0) (k0_pay159 x0) (k0_pay160 x0) (k0_pay161 x0)) (k0_pay163 x0) (k0_pay164 x0) (k0_pay165 x0) (k0_pay166 x0)) (k0_pay169 x0) (k0_pay170 x0) 2139095040#32) (k0_pay177 x0)) (k0_pay183 x0)) (k0_pay186 x0) (k0_pay187 x0) (k0_pay188 x0) (k0_pay189 x0)) (k0_pay191 x0) (k0_pay192 x0) (k0_pay193 x0) (k0_pay194 x0)) (k0_pay197 x0) (k0_pay198 x0) 2139095040#32) (k0_pay203 x0)⟩]

/-- Its stores tile the buffer, so they cover it. -/
theorem cover0_2 (p0 : Vec F S512x13 .f32) (y : S512x13.Idx) :
    ∃ pc ∈ ([⟨r0_26, p0⟩] : List (View.Piece (Elt F) S512x13 .f32)), y ∈ pc.1.set :=
  View.cover_of_tiled [⟨r0_26, p0⟩] S512x13.size (by rfl) y

/-- Window 3's staging buffer after the body, from the input windows' blocks. -/
def out0_3 (x0 : Vec F S512x1664 .bf16) : Vec F S512x1536 .bf16 :=
  View.canon [⟨r0_23, k0_pay124 (k0_pay195 x0) (k0_pay197 x0) (k0_pay198 x0) 2139095040#32⟩,
    ⟨r0_21, k0_pay115 (k0_pay190 x0) (k0_pay191 x0) (k0_pay192 x0) (k0_pay193 x0) (k0_pay194 x0)⟩,
    ⟨r0_19, k0_pay105 (k0_pay185 x0) (k0_pay186 x0) (k0_pay187 x0) (k0_pay188 x0) (k0_pay189 x0)⟩,
    ⟨r0_17, k0_pay95 (k0_pay183 x0) (k0_pay184 x0)⟩,
    ⟨r0_15, k0_pay84 (k0_pay171 x0) (k0_pay176 x0) (k0_pay177 x0) (k0_pay178 x0)⟩,
    ⟨r0_13, k0_pay73 (k0_pay167 x0) (k0_pay169 x0) (k0_pay170 x0) 2139095040#32⟩,
    ⟨r0_11, k0_pay64 (k0_pay162 x0) (k0_pay163 x0) (k0_pay164 x0) (k0_pay165 x0) (k0_pay166 x0)⟩,
    ⟨r0_9, k0_pay54 (k0_pay157 x0) (k0_pay158 x0) (k0_pay159 x0) (k0_pay160 x0) (k0_pay161 x0)⟩,
    ⟨r0_7, k0_pay44 (k0_pay155 x0) (k0_pay156 x0)⟩,
    ⟨r0_5, k0_pay33 (k0_pay143 x0) (k0_pay148 x0) (k0_pay149 x0) (k0_pay150 x0)⟩,
    ⟨r0_3, k0_pay22 (k0_pay139 x0) (k0_pay141 x0) (k0_pay142 x0) 2139095040#32⟩,
    ⟨r0_1, k0_pay13 (k0_pay134 x0) (k0_pay135 x0) (k0_pay136 x0) (k0_pay137 x0) (k0_pay138 x0)⟩]

/-- Its stores tile the buffer, so they cover it. -/
theorem cover0_3 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (y : S512x1536.Idx) :
    ∃ pc ∈ ([⟨r0_23, p0⟩, ⟨r0_21, p1⟩, ⟨r0_19, p2⟩, ⟨r0_17, p3⟩, ⟨r0_15, p4⟩, ⟨r0_13, p5⟩, ⟨r0_11, p6⟩, ⟨r0_9, p7⟩, ⟨r0_7, p8⟩, ⟨r0_5, p9⟩, ⟨r0_3, p10⟩, ⟨r0_1, p11⟩] : List (View.Piece (Elt F) S512x1536 .bf16)), y ∈ pc.1.set :=
  View.cover_of_tiled [⟨r0_23, p0⟩, ⟨r0_21, p1⟩, ⟨r0_19, p2⟩, ⟨r0_17, p3⟩, ⟨r0_15, p4⟩, ⟨r0_13, p5⟩, ⟨r0_11, p6⟩, ⟨r0_9, p7⟩, ⟨r0_7, p8⟩, ⟨r0_5, p9⟩, ⟨r0_3, p10⟩, ⟨r0_1, p11⟩] S512x128.size (by rfl) y

/-- Window 4's staging buffer after the body, from the input windows' blocks. -/
def out0_4 (x0 : Vec F S512x1664 .bf16) : Vec F S512x128 .f32 :=
  View.canon [⟨r0_25, k0_pay203 x0⟩]

/-- Its stores tile the buffer, so they cover it. -/
theorem cover0_4 (p0 : Vec F S512x128 .f32) (y : S512x128.Idx) :
    ∃ pc ∈ ([⟨r0_25, p0⟩] : List (View.Piece (Elt F) S512x128 .f32)), y ∈ pc.1.set :=
  View.cover_of_tiled [⟨r0_25, p0⟩] S512x128.size (by rfl) y

/-! ## The body's triple -/

set_option maxHeartbeats 1000000 in
/-- The kernel body on whole staging memrefs, the inputs' at read contents `xW` and the outputs' at anything, runs to the continuation holding the inputs' as they were and each output's at `out0_W` of the inputs'. -/
theorem sound_kernel0 (c : Dev nD) (E : Set ℕ) (i : grid0.Coords) (arg1 : Memref sig .tc .vmem S512x1664 .bf16) (harg1 : arg1.IsWhole) (arg2 : Memref sig .tc .vmem S512x1664 .fp8e4m3) (harg2 : arg2.IsWhole) (arg3 : Memref sig .tc .vmem S512x13 .f32) (harg3 : arg3.IsWhole) (arg4 : Memref sig .tc .vmem S512x1536 .bf16) (harg4 : arg4.IsWhole) (arg5 : Memref sig .tc .vmem S512x128 .f32) (harg5 : arg5.IsWhole)
    (x0 : Vec F S512x1664 .bf16) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare (out0_1 x0) ∗ owns (c : Thread nD τ) arg3 fullShare (out0_2 x0) ∗ owns (c : Thread nD τ) arg4 fullShare (out0_3 x0) ∗ owns (c : Thread nD τ) arg5 fullShare (out0_4 x0)) -∗ K ⟨⟩))
      ⊢ wp frame (wpE (defs₀ (F := F)) Variants.none c none) E (cc0_quantise_x i arg1 harg1 arg2 harg2 arg3 harg3 arg4 harg4 arg5 harg5) K := by
  simp only [cc0_quantise_x_eq_skeleton]; unfold cc0_quantise_x_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _ _ _ _ _ _ _ _ _ _ _ _ _)).trans ?_
    rfl
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _ _ _ _ _ _ _ _ _ _ _ _)).trans ?_
    rfl
  iexists _; isplitr
  swap; · iexact H4
  ipureintro
  refine (View.read_writes_eq_canon _ _ _ (cover0_4 _)).trans ?_
  rfl

/-! ## The pipeline's proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

/-- The proof data's arrays are the region-entry contents, by projecting the definition. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdeal.Region1.lean ====
/- Region 1, the quantised matmul: its windows' blocks, its branch condition and its idle points. -/
module

public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_quantised_matmul`, at the entry contents `V` -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0, from the grid coordinates. -/
abbrev cond1_0 (i : grid1.Coords) : Prop := k1_cond1 i = 1#1
/-- It holds at the points ≡ 0. -/
theorem hcond1_0 : ∀ t : Fin cfg1.N, cond1_0 (grid1.coords t) ↔ t.val % 4 = 0 :=
  (fun t => by
    have ht : t.val < 216 := Nat.lt_of_lt_of_eq t.isLt N_1
    have e0 : (grid1.coords t 0).val = t.val / 4 % 54 := Pipeline.Grid.coords_val t 0 (by decide) rfl
    have e1 : (grid1.coords t 1).val = t.val / 1 % 4 := Pipeline.Grid.coords_val t 1 (by decide) rfl
    simp only [cond1_0, k1_cond1, e0, e1]
    word_cmp
   : ∀ t : Fin grid1.N, cond1_0 (grid1.coords t) ↔ t.val % 4 = 0)

/-! ## Where the windows are idle -/

/-- Window 0 is never idle. -/
theorem liveAt1_0 : ∀ t : Fin cfg1.N, cfg1.idle 0 (grid1.coords t) = false := fun _ => rfl
/-- Window 1 is never idle. -/
theorem liveAt1_1 : ∀ t : Fin cfg1.N, cfg1.idle 1 (grid1.coords t) = false := fun _ => rfl
/-- Window 2 is never idle. -/
theorem liveAt1_2 : ∀ t : Fin cfg1.N, cfg1.idle 2 (grid1.coords t) = false := fun _ => rfl
/-- Window 3 is never idle. -/
theorem liveAt1_3 : ∀ t : Fin cfg1.N, cfg1.idle 3 (grid1.coords t) = false := fun _ => rfl
/-- Window 4 is never idle. -/
theorem liveAt1_4 : ∀ t : Fin cfg1.N, cfg1.idle 4 (grid1.coords t) = false := fun _ => rfl
/-- Whether output 5's buffer is FRESH at each position `1 ‥ N`. -/
def freshTab1_5 : ℕ → Bool
  | 0 => true
  | n + 1 => (0x888888888888888888888888888888888888888888888888888888 : ℕ).testBit n
theorem freshTab1_5_step : ∀ t : Fin cfg1.N,
    freshTab1_5 (t.val + 1) = ((cfg1.win 5).flush t || (cfg1.idle 5 (cfg1.grid.coords t) && freshTab1_5 t.val)) := by decide +kernel
theorem fresh1_5_eq (t : Fin cfg1.N) : cfg1.fresh 5 t.val = freshTab1_5 t.val :=
  Pipeline.Cfg.fresh_tab cfg1 5 freshTab1_5 rfl freshTab1_5_step t.val (Nat.le_of_lt t.isLt)
/-- At the points of case A the printed configuration calls output 5 live. -/
theorem liveAt1_5_A : ∀ t : Fin cfg1.N, cond1_0 (grid1.coords t) → cfg1.idle 5 (grid1.coords t) = false := by decide +kernel
/-- At the points of case B the printed configuration calls output 5 live. -/
theorem idleAt1_5_B : ∀ t : Fin cfg1.N, ¬cond1_0 (grid1.coords t) → cfg1.idle 5 (grid1.coords t) = true := by decide +kernel
/-- At the points of case B, which keeps output 5's prior contents, the window's buffer is not FRESH. -/
theorem notFresh1_5_B : ∀ t : Fin cfg1.N, ¬cond1_0 (grid1.coords t) → cfg1.fresh 5 t.val = false := by
  intro t; rw [fresh1_5_eq t]; revert t; decide +kernel
/-- Whether output 6's buffer is FRESH at each position `1 ‥ N`. -/
def freshTab1_6 : ℕ → Bool
  | 0 => true
  | n + 1 => (0x888888888888888888888888888888888888888888888888888888 : ℕ).testBit n
theorem freshTab1_6_step : ∀ t : Fin cfg1.N,
    freshTab1_6 (t.val + 1) = ((cfg1.win 6).flush t || (cfg1.idle 6 (cfg1.grid.coords t) && freshTab1_6 t.val)) := by decide +kernel
theorem fresh1_6_eq (t : Fin cfg1.N) : cfg1.fresh 6 t.val = freshTab1_6 t.val :=
  Pipeline.Cfg.fresh_tab cfg1 6 freshTab1_6 rfl freshTab1_6_step t.val (Nat.le_of_lt t.isLt)
/-- At the points of case A the printed configuration calls output 6 live. -/
theorem liveAt1_6_A : ∀ t : Fin cfg1.N, cond1_0 (grid1.coords t) → cfg1.idle 6 (grid1.coords t) = false := by decide +kernel
/-- At the points of case B the printed configuration calls output 6 live. -/
theorem idleAt1_6_B : ∀ t : Fin cfg1.N, ¬cond1_0 (grid1.coords t) → cfg1.idle 6 (grid1.coords t) = true := by decide +kernel
/-- At the points of case B, which keeps output 6's prior contents, the window's buffer is not FRESH. -/
theorem notFresh1_6_B : ∀ t : Fin cfg1.N, ¬cond1_0 (grid1.coords t) → cfg1.fresh 6 t.val = false := by
  intro t; rw [fresh1_6_eq t]; revert t; decide +kernel

/-! ## The kernel body on any staging memrefs: a subtype the run finds -/

/-- One staging buffer of output window 4, through which its contents are stated. -/
abbrev VO1_4 : View sig .tc .vmem S1536x512 .bf16 := (Memref.whole cc1_stg4_0 : Memref sig .tc .vmem S1536x512 .bf16).view
/-- One staging buffer of output window 5, through which its contents are stated. -/
abbrev VO1_5 : View sig .tc .vmem S1664x512 .fp8e4m3 := (Memref.whole cc1_stg5_0 : Memref sig .tc .vmem S1664x512 .fp8e4m3).view
/-- One staging buffer of output window 6, through which its contents are stated. -/
abbrev VO1_6 : View sig .tc .vmem S13x512 .f32 := (Memref.whole cc1_stg6_0 : Memref sig .tc .vmem S13x512 .f32).view
/-- Each window's current staging memref at point `t`, spelled as the pipeline passes it, and its wholeness. -/
abbrev ms1_0 (t : Fin cfg1.N) : Memref sig .tc .vmem S1536x1536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1536x128 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1536x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1664x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1536x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1664x512 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S13x512 .f32 := win1_6.stage (cfg1.slots t 6)
abbrev hs1_6 (t : Fin cfg1.N) : (ms1_6 t).IsWhole := hstage1_6 ((cfg1.slots t 6).cast nbuf1_6)
/-- The scratch operands. -/
abbrev scM1_0 : Memref sig .tc .vmem S1536x512 .bf16 := Memref.whole cc1_scratch0
abbrev scM1_1 : Memref sig .tc .vmem S1x512 .f32 := Memref.whole cc1_scratch1
/-- The scratch `arg9` the kernel carries between points, as a view. -/
abbrev VS1_0 : View sig .tc .vmem S1536x512 .bf16 := scM1_0.view
/-- The scratch `arg10` the kernel carries between points, as a view. -/
abbrev VS1_1 : View sig .tc .vmem S1x512 .f32 := scM1_1.view

/-- The frame kit's invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Regions

end Cert.KernelIdeal.Gen

end
-- ==== Proof.KernelIdeal.RunA.lean ====
/- Region 1 at a point that opens a column panel (the weights are quantised there). -/
module

public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.Region1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces IN CASE A, WITH the proof that on whole staging memrefs. -/
noncomputable def kernelRun1_A (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) :
    Σ' (L4 : List (View.Piece (Elt F) S1536x512 .bf16)), Σ' (L5 : List (View.Piece (Elt F) S1664x512 .fp8e4m3)), Σ' (L6 : List (View.Piece (Elt F) S13x512 .f32)), Σ' (LS0 : List (View.Piece (Elt F) S1536x512 .bf16)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_quantised_matmul i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1_quantised_matmul_eq_skeleton]; unfold cc1_quantised_matmul_skel
    simp only [k1_part26_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part27_eq_skeleton, k1_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

/-- Case A's pieces for output 4 tile its block, so they cover it. -/
theorem cover1_A_4 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S1536x512.Idx) :
    ∃ pc ∈ (kernelRun1_A c i arg2 harg2 arg3 harg3 arg4 harg4 arg5 harg5 arg6 harg6 arg7 harg7 arg8 harg8 arg9 harg9 arg10 harg10 hc0 x0 x1 x2 x3).1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).1 S256x512.size (by sl_kernel_rfl) y

/-- What case A leaves in output 4's staging buffer. -/
def out1_A_4 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S1536x512 .bf16 :=
  VO1_4.read (Elt F) (VO1_4.writes (Elt F) VO1_4.junk (kernelRun1_A c i arg2 harg2 arg3 harg3 arg4 harg4 arg5 harg5 arg6 harg6 arg7 harg7 arg8 harg8 arg9 harg9 arg10 harg10 hc0 x0 x1 x2 x3).1)

/-- Case A's pieces for output 5 tile its block, so they cover it. -/
theorem cover1_A_5 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S1664x512.Idx) :
    ∃ pc ∈ (kernelRun1_A c i arg2 harg2 arg3 harg3 arg4 harg4 arg5 harg5 arg6 harg6 arg7 harg7 arg8 harg8 arg9 harg9 arg10 harg10 hc0 x0 x1 x2 x3).2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).2.1 S128x512.size (by sl_kernel_rfl) y

/-- What case A leaves in output 5's staging buffer. -/
def out1_A_5 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S1664x512 .fp8e4m3 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 x0 x1 x2 x3).2.1)

/-- Case A's pieces for output 6 tile its block, so they cover it. -/
theorem cover1_A_6 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S13x512.Idx) :
    ∃ pc ∈ (kernelRun1_A c i arg2 harg2 arg3 harg3 arg4 harg4 arg5 harg5 arg6 harg6 arg7 harg7 arg8 harg8 arg9 harg9 arg10 harg10 hc0 x0 x1 x2 x3).2.2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).2.2.1 S1x512.size (by sl_kernel_rfl) y

/-- What case A leaves in output 6's staging buffer. -/
def out1_A_6 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S13x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 x0 x1 x2 x3).2.2.1)

/-- Case A's pieces for scratch `arg9`, which the kernel carries between points, cover it. -/
theorem scover1_A_0 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S1536x512.Idx) :
    ∃ pc ∈ (kernelRun1_A c i arg2 harg2 arg3 harg3 arg4 harg4 arg5 harg5 arg6 harg6 arg7 harg7 arg8 harg8 arg9 harg9 arg10 harg10 hc0 x0 x1 x2 x3).2.2.2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).2.2.2.1 S128x512.size (by sl_kernel_rfl) y

/-- What case A leaves in scratch `arg9`. -/
def sout1_A_0 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S1536x512 .bf16 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 x0 x1 x2 x3).2.2.2.1)

/-- Case A's pieces for scratch `arg10`, which the kernel carries between points, cover it. -/
theorem scover1_A_1 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) (y : S1x512.Idx) :
    ∃ pc ∈ (kernelRun1_A c i arg2 harg2 arg3 harg3 arg4 harg4 arg5 harg5 arg6 harg6 arg7 harg7 arg8 harg8 arg9 harg9 arg10 harg10 hc0 x0 x1 x2 x3).2.2.2.2.1, y ∈ pc.1.set :=
  View.cover_of_tiledL (kernelRun1_A c i arg2 harg2 arg3 harg3 arg4 harg4 arg5 harg5 arg6 harg6 arg7 harg7 arg8 harg8 arg9 harg9 arg10 harg10 hc0 x0 x1 x2 x3).2.2.2.2.1 S1x512.size (by sl_kernel_rfl) y

/-- What case A leaves in scratch `arg10`. -/
def sout1_A_1 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : cond1_0 i)
    (x0 : Vec F S1536x1536 .bf16) (x1 : Vec F S1536x128 .fp8e4m3) (x2 : Vec F S1536x128 .f32) (x3 : Vec F S1664x512 .bf16) : Vec F S1x512 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 x0 x1 x2 x3).2.2.2.2.1)

end Regions

end Cert.KernelIdeal.Gen

end
-- ==== Proof.KernelIdeal.RunB.lean ====
/- Region 1 at a point that reuses the panel's quantised weights. -/
module

public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.Region1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces IN CASE B, WITH the proof that on whole staging memrefs. -/
noncomputable def kernelRun1_B (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) :
    Σ' (L4 : List (View.Piece (Elt F) S1536x512 .bf16)), Σ' (L5 : List (View.Piece (Elt F) S1664x512 .fp8e4m3)), Σ' (L6 : List (View.Piece (Elt F) S13x512 .f32)), Σ' (LS0 : List (View.Piece (Elt F) S1536x512 .bf16)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xo5 ∗ owns (c : Thread nD τ) arg8 fullShare xo6 ∗ owns (c : Thread nD τ) arg9 fullShare xs0 ∗ owns (c : Thread nD τ) arg10 fullShare xs1) -∗ K ⟨⟩))
          ⊢ wp frame (wpE (defs₀ (F := F)) Variants.none c none) E (cc1_quantised_matmul i arg2 harg2 arg3 harg3 arg4 harg4 arg5 harg5 arg6 harg6 arg7 harg7 arg8 harg8 arg9 harg9 arg10 harg10) K } := by
  refine ⟨?_, [], [], [], [], fun E K => ?run⟩
  case run =>
    simp only [cc1_quantised_matmul_eq_skeleton]; unfold cc1_quantised_matmul_skel
    simp only [k1_part26_eq_skeleton, k1_part27_eq_skeleton, k1_part28_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hfs0; obtain rfl := harg10.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

/-- Case B's pieces for output 4 tile its block, so they cover it. -/
theorem cover1_B_4 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) (y : S1536x512.Idx) :
    ∃ pc ∈ (kernelRun1_B c i arg2 harg2 arg3 harg3 arg4 harg4 arg5 harg5 arg6 harg6 arg7 harg7 arg8 harg8 arg9 harg9 arg10 harg10 hc0 x0 x1 x2 x3 xo5 xo6 xs0 xs1).1, y ∈ pc.1.set :=
  View.cover_of_tiledL (kernelRun1_B c i arg2 harg2 arg3 harg3 arg4 harg4 arg5 harg5 arg6 harg6 arg7 harg7 arg8 harg8 arg9 harg9 arg10 harg10 hc0 x0 x1 x2 x3 xo5 xo6 xs0 xs1).1 S256x512.size (by sl_kernel_rfl) y

/-- What case B leaves in output 4's staging buffer. -/
def out1_B_4 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S1536x512 .bf16 :=
  VO1_4.read (Elt F) (VO1_4.writes (Elt F) VO1_4.junk (kernelRun1_B c i arg2 harg2 arg3 harg3 arg4 harg4 arg5 harg5 arg6 harg6 arg7 harg7 arg8 harg8 arg9 harg9 arg10 harg10 hc0 x0 x1 x2 x3 xo5 xo6 xs0 xs1).1)

/-- Case B stores nothing into output 5, a live window. -/
def out1_B_5 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S1664x512 .fp8e4m3 := xo5

/-- Case B stores nothing into output 6, a live window. -/
def out1_B_6 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S13x512 .f32 := xo6

/-- Case B stores nothing into scratch `arg9`. -/
def sout1_B_0 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S1536x512 .bf16 := xs0

/-- Case B stores nothing into scratch `arg10`. -/
def sout1_B_1 (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole) (hc0 : ¬cond1_0 i)
    (x0 : Vec F S1536x1536 .bf16) (x1 : Vec F S1536x128 .fp8e4m3) (x2 : Vec F S1536x128 .f32) (x3 : Vec F S1664x512 .bf16) (xo5 : Vec F S1664x512 .fp8e4m3) (xo6 : Vec F S13x512 .f32) (xs0 : Vec F S1536x512 .bf16) (xs1 : Vec F S1x512 .f32) : Vec F S1x512 .f32 := xs1

end Regions

end Cert.KernelIdeal.Gen

end
-- ==== Proof.KernelIdeal.Outs.lean ====
/- Region 1 point by point: what the outputs and the carried scratch hold. -/
module

public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.RunA
public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! ## What the outputs hold after each point -/

/-- THE ACCUMULATION. -/
def outsAt1 (c : Dev nD) : (n : ℕ) → n < cfg1.N → Vec F S1536x512 .bf16 × Vec F S1664x512 .fp8e4m3 × Vec F S13x512 .f32 × Vec F S1536x512 .bf16 × Vec F S1x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 4 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

/-- `outsAt1` at a point of case A. -/
theorem outsAt1_A (c : Dev nD) (t : Fin cfg1.N) (h0 : t.val % 4 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B. -/
theorem outsAt1_B (c : Dev nD) (t : Fin cfg1.N) (h0 : ¬t.val % 4 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2.2.2.1) ∗ owns (c : Thread nD τ) scM1_1 fullShare ((outsAt1 V c n hn).2.2.2.2)) ∗ (∃ r, prngReg c r))

theorem PhiS_zero (c : Dev nD) (n : ℕ) (h : n ≤ cfg1.N) (hz : n = 0) : PhiS V c n h = Pipeline.ΦA spec1 c := by
  subst hz; rfl

/-- After point `n`. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2.2.2.1) ∗ owns (c : Thread nD τ) scM1_1 fullShare ((outsAt1 V c n hn).2.2.2.2)) ∗ (∃ r, prngReg c r)) := rfl

/-- Before a point that is not the first. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2.2.2.1) ∗ owns (c : Thread nD τ) scM1_1 fullShare ((outsAt1 V c (n - 1) (by omega)).2.2.2.2)) ∗ (∃ r, prngReg c r)) := by
  cases n with
  | zero => exact absurd rfl hz
  | succ n => rfl

/-! ## The pipeline's proof data -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS V c t.val (Nat.le_of_lt_succ t.isLt)
  q _ := fullShare
  owed _ := 0

/-- The proof data's arrays are the region-entry contents, by projecting the definition. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- Output 5's contents CARRY through the points that leave it idle. -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 216 := lt_of_lt_of_eq t.isLt (show cfg1.N = 216 from N_1)
  rw [after1_5, after1_5]
  by_cases h0 : t.val % 4 = 0
  · rw [liveAt1_5_A t ((hcond1_0 t).mpr h0)] at hi
    exact absurd hi Bool.false_ne_true
  · rw [outsAt1_B V c t h0]; rfl

/-- Output 6's contents CARRY through the points that leave it idle. -/
theorem hcarry1_6 (c : Dev nD) : ∀ (t : Fin cfg1.N) (_ : t.val ≠ 0), cfg1.idle 6 (grid1.coords t) = true → cfg1.fresh 6 t.val = false →
    (dat1 V c).after 6 t = (dat1 V c).after 6 ⟨t.val - 1, by omega⟩ := by
  intro t _ hi _
  have hN : t.val < 216 := lt_of_lt_of_eq t.isLt (show cfg1.N = 216 from N_1)
  rw [after1_6, after1_6]
  by_cases h0 : t.val % 4 = 0
  · rw [liveAt1_6_A t ((hcond1_0 t).mpr h0)] at hi
    exact absurd hi Bool.false_ne_true
  · rw [outsAt1_B V c t h0]; rfl
/-- At a point of case B output 5's current staging buffer holds what the point before left. -/
theorem before1_5_B (c : Dev nD) (t : Fin cfg1.N) (h0 : ¬t.val % 4 = 0) (d) :
    (dat1 V c).before 5 t d = (outsAt1 V c (t.val - 1) (Nat.lt_of_le_of_lt (Nat.sub_le _ _) t.isLt)).2.1 := by
  rw [Dat.before_out_traj _ 5 rfl (fun _ _ => rfl) (hcarry1_5 V c) t.val t rfl d,
    if_neg (by rw [notFresh1_5_B t (fun h => h0 ((hcond1_0 t).mp h))]; exact Bool.false_ne_true)]
  dsimp only [dat1]
/-- At a point of case B output 6's current staging buffer holds what the point before left. -/
theorem before1_6_B (c : Dev nD) (t : Fin cfg1.N) (h0 : ¬t.val % 4 = 0) (d) :
    (dat1 V c).before 6 t d = (outsAt1 V c (t.val - 1) (Nat.lt_of_le_of_lt (Nat.sub_le _ _) t.isLt)).2.2.1 := by
  rw [Dat.before_out_traj _ 6 rfl (fun _ _ => rfl) (hcarry1_6 V c) t.val t rfl d,
    if_neg (by rw [notFresh1_6_B t (fun h => h0 ((hcond1_0 t).mp h))]; exact Bool.false_ne_true)]
  dsimp only [dat1]

/-- At a point of case B output 5's buffer is left as found, which is the contents named for the point. -/
theorem leaves1_5_B (c : Dev nD) (t : Fin cfg1.N) (h0 : ¬t.val % 4 = 0) :
    (dat1 V c).leavesExact 5 t = owns (c : Thread nD τ) (ms1_5 t) fullShare (outsAt1 V c t.val t.isLt).2.1 := by
  have hi := idleAt1_5_B t (fun h => h0 ((hcond1_0 t).mp h))
  have hb : ∀ d, (dat1 V c).before 5 t d = (outsAt1 V c t.val t.isLt).2.1 := fun d => by
    rw [before1_5_B V c t h0 d, outsAt1_B V c t h0]; rfl
  cases hf : (cfg1.win 5).flush t with
  | false =>
    rw [Dat.leavesExact_idle _ 5 t hi hf]
    refine BI.Entails.antisymm ?_ ?_
    · show (_ : sProp 𝕄) ⊢ (_ : sProp 𝕄)
      iintro ⟨%d, H⟩
      rw [← hb d]
      iexact H
    · show (_ : sProp 𝕄) ⊢ (_ : sProp 𝕄)
      iintro H
      iexists (outsAt1 V c t.val t.isLt).2.1
      rw [hb]
      iexact H
  | true =>
    unfold Dat.leavesExact; rw [hi, hf, ← after1_5]

/-- At a point of case B output 6's buffer is left as found, which is the contents named for the point. -/
theorem leaves1_6_B (c : Dev nD) (t : Fin cfg1.N) (h0 : ¬t.val % 4 = 0) :
    (dat1 V c).leavesExact 6 t = owns (c : Thread nD τ) (ms1_6 t) fullShare (outsAt1 V c t.val t.isLt).2.2.1 := by
  have hi := idleAt1_6_B t (fun h => h0 ((hcond1_0 t).mp h))
  have hb : ∀ d, (dat1 V c).before 6 t d = (outsAt1 V c t.val t.isLt).2.2.1 := fun d => by
    rw [before1_6_B V c t h0 d, outsAt1_B V c t h0]; rfl
  cases hf : (cfg1.win 6).flush t with
  | false =>
    rw [Dat.leavesExact_idle _ 6 t hi hf]
    refine BI.Entails.antisymm ?_ ?_
    · show (_ : sProp 𝕄) ⊢ (_ : sProp 𝕄)
      iintro ⟨%d, H⟩
      rw [← hb d]
      iexact H
    · show (_ : sProp 𝕄) ⊢ (_ : sProp 𝕄)
      iintro H
      iexists (outsAt1 V c t.val t.isLt).2.2.1
      rw [hb]
      iexact H
  | true =>
    unfold Dat.leavesExact; rw [hi, hf, ← after1_6]

end Regions

end Cert.KernelIdeal.Gen

end
-- ==== Proof.KernelIdeal.Body1.lean ====
/- Region 1: the body's obligation at every point. -/
module

public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.Outs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 6400000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 216 := lt_of_lt_of_eq t.isLt (show cfg1.N = 216 from N_1)
  by_cases h0 : t.val % 4 = 0
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5_A t ((hcond1_0 t).mpr h0)], after1_5]
    rw [show (dat1 V c).leavesExact 6 t = owns (c : Thread nD τ) (ms1_6 t) fullShare ((dat1 V c).after 6 t) from by
      unfold Dat.leavesExact; rw [liveAt1_6_A t ((hcond1_0 t).mpr h0)], after1_6]
    by_cases hz : t.val = 0
    · rw [PhiS_castSucc V c t, PhiS_zero V c _ _ hz, PhiA1_eq]
      rw [outsAt1_A V c t h0]
      unfold out1_A_4 out1_A_5 out1_A_6 sout1_A_0 sout1_A_1; (try dsimp only)
      iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HR0 HR1 HR2 HR3 HR4 HR5 HR6 HR7 HR8 HR9 HS0 HS1 Hg]
      · isplitl [HR0 HR1 HR2 HR3 HR4 HR5 HR6 HR7 HR8 HR9 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _ _)
    · rw [PhiS_castSucc V c t, PhiS_pos V c _ _ hz]
      rw [outsAt1_A V c t h0]
      unfold out1_A_4 out1_A_5 out1_A_6 sout1_A_0 sout1_A_1; (try dsimp only)
      iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ _ _ ((hcond1_0 t).mpr h0) (iblk1 V c 0 t) (iblk1 V c 1 t) (iblk1 V c 2 t) (iblk1 V c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexists _; iexact HS0
      isplitl [HS1]; · iexists _; iexact HS1
      iintro ⟨H0, H1, H2, H3, ⟨%e4, H4⟩, ⟨%e5, H5⟩, ⟨%e6, H6⟩, ⟨%es0, HS0⟩, ⟨%es1, HS1⟩⟩
      isplitl [HR0 HR1 HR2 HR3 HR4 HR5 HR6 HR7 HR8 HR9 HS0 HS1 Hg]
      · isplitl [HR0 HR1 HR2 HR3 HR4 HR5 HR6 HR7 HR8 HR9 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _ _ _)
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      unfold owns; iexists _; isplitr
      swap; · iexact H6
      ipureintro; exact View.read_writes_of_cover _ _ _ _ _ (cover1_A_6 c _ _ _ _ _ _ _ _ _ _ _ _ _ _ _ _ _ _ _ _ _ _ _ _)
  · rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [leaves1_5_B V c t h0]
    rw [leaves1_6_B V c t h0]
    by_cases hz : t.val = 0
    · exfalso; have hN : t.val < 216 := lt_of_lt_of_eq t.isLt (show cfg1.N = 216 from N_1); omega
    · rw [PhiS_castSucc V c t, PhiS_pos V c _ _ hz]
      rw [outsAt1_B V c t h0]
      simp only [before1_5_B V c t h0, before1_6_B V c t h0]
      unfold out1_B_4 out1_B_5 out1_B_6 sout1_B_0 sout1_B_1; (try dsimp only)
      iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (iblk1 V c 0 t) (iblk1 V c 1 t) (iblk1 V c 2 t) (iblk1 V c 3 t) _ _ _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, HS0, HS1⟩
      isplitl [HR0 HR1 HR2 HR3 HR4 HR5 HR6 HR7 HR8 HR9 HS0 HS1 Hg]
      · isplitl [HR0 HR1 HR2 HR3 HR4 HR5 HR6 HR7 HR8 HR9 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _ _)
      isplitl [H5]; · iexact H5
      iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HS0, HS1⟩, Hg⟩
  isplitl [HR0 HR1 HR2 HR3 HR4 HR5 HR6 HR7 HR8 HR9 HS0 HS1]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HS0]
    · iexists _; iexact HS0
    iexists _; iexact HS1
  iexact Hg

/-- The same after the last point. -/
theorem hout (c : Dev nD) : (dat1 V c).Φ (Fin.last cfg1.N) ⊢ Pipeline.ΦA spec1 c :=
  Phi_out V c _ (by rw [Fin.val_last]; have : cfg1.N = 216 := N_1; omega)

end Regions

end Cert.KernelIdeal.Gen

end
-- ==== Proof.KernelIdeal.Run.lean ====
/- The run of the whole program: host stretches and the two regions in order. -/
module

public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.KernelIdeal.Region0
public import proofs.«01_k».proof.Proof.KernelIdeal.Body1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return -/

/-- @main's argument arrays, as TensorCore references. -/
abbrev argRefs : List (Ref sig .tc) := [main_arg0, main_arg1]

/-! ## The host stretches: none allocates a buffer, and each lists the references its operations write, in order, so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4, main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references. -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references. -/
abbrev V3 : (c : Dev nD) → (b : Ref sig .tc) → Buf (Elt F) ((c : Thread nD τ).loc b) := fun c b => W3 m ρ c b
/-- At region 1's exit each of its arrays holds what the pipeline leaves and every other buffer what it held at entry. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)

/-! ## The proof data family and the thread state -/

/-- The prefetched tables' admissible contents. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (Gen.hin (V2 m ρ) c)
    unfold Pipeline.ΦA
    iintro ⟨Hp, -, Hr⟩
    isplitl [Hr]; · iexact Hr
    iexact Hp
  hout c := by
    rw [Pipeline.ownSems0_none]
    refine BI.BIBase.Entails.trans (Gen.hout (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: every buffer ends at `W4`, every semaphore at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c)⟩, h.2⟩) (run_all m ρ)

/-- `frame` without the counters. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h => h.1) (frame m ρ)

end Cert.KernelIdeal.Gen

end
-- ==== Proof.Value.Quant.lean ====
/- The quantiser of one group as the kernel computes it, on one element: the exponent field found bit by bit, the
scale and its inverse read from bits, the clipped code, the dequantised value. -/
module

public import Idealize.ShloMosaic.PureOps.Vector

@[expose] public section

noncomputable section

namespace Cert.Quant

open Idealize.ShloMosaic

variable {F : FTy → Type} [FloatOps F]

/-- One step of the search: keep `bit` where the float of the pattern with it is at most `c`. -/
def step (c : F .f32) (bit e : BitVec 32) : BitVec 32 :=
  Scalar.select (FloatOps.cmpf .oge c (FloatOps.ofBits .f32 (IntOp.ori e bit))) (IntOp.ori e bit) e

/-- The exponent field of `c`, found from its top bit down. -/
def field (c : F .f32) : BitVec 32 :=
  step c 8388608#32 (step c 16777216#32 (step c 33554432#32 (step c 67108864#32 (step c 134217728#32
    (step c 268435456#32 (step c 536870912#32 (step c 1073741824#32 0#32)))))))

/-- The field with zero and the all-ones field replaced by the one whose scale is 1. -/
def fixed (c : F .f32) : BitVec 32 :=
  Scalar.select (IntOp.ori (IntOp.cmpi .eq (field c) 0#32) (IntOp.cmpi .eq (field c) 2139095040#32)) 1056964608#32 (field c)

def scale (c : F .f32) : F .f32 := FloatOps.ofBits .f32 (IntOp.addi (fixed c) 8388608#32)

def inv (c : F .f32) : F .f32 := FloatOps.ofBits .f32 (IntOp.subi 2122317824#32 (fixed c))

theorem lt16 : FTy.bits .bf16 < FTy.bits .f32 := by decide
theorem lt8 : FTy.bits .fp8e4m3 < FTy.bits .bf16 := by decide

def code (v : F .bf16) (c : F .f32) : F .fp8e4m3 :=
  FloatOps.truncf .fp8e4m3 lt8 (FloatOps.minimumf (Scalar.truncf .bf16 lt16 (Scalar.ofBits .f32 0x43E00000#32))
    (FloatOps.maximumf (Scalar.truncf .bf16 lt16 (Scalar.ofBits .f32 0xC3E00000#32))
      (FloatOps.mulf v (FloatOps.truncf .bf16 lt16 (inv c)))))

def deq (v : F .bf16) (c : F .f32) : F .bf16 :=
  FloatOps.mulf (FloatOps.extf .bf16 lt8 (code v c)) (FloatOps.truncf .bf16 lt16 (scale c))

/-- The exponent as the reference computes it from a group's greatest magnitude, and the code and scale from the exponent. -/
def expOf (a : F .f32) : F .f32 :=
  Scalar.select (FloatOps.cmpf .oeq a (Scalar.ofBits .f32 0x00000000#32)) (Scalar.ofBits .f32 0x00000000#32)
    (Scalar.select (IntOp.andi (FloatOps.cmpf .oge (FloatOps.mulf a (Scalar.ofBits .f32 0x3B124925#32)) (Scalar.ofBits .f32 0x00800000#32))
        (FloatOps.cmpf .olt (FloatOps.mulf a (Scalar.ofBits .f32 0x3B124925#32)) (Scalar.ofBits .f32 0x7F800000#32)))
      (FloatOps.addf (FloatOps.floor (FloatOps.divf (FloatOps.log (FloatOps.mulf a (Scalar.ofBits .f32 0x3B124925#32)))
        (FloatOps.log (Scalar.ofBits .f32 0x40000000#32)))) (Scalar.ofBits .f32 0x3F800000#32))
      (Scalar.ofBits .f32 0x00000000#32))

theorem lt832 : FTy.bits .fp8e4m3 < FTy.bits .f32 := by decide

def codeOf (v e : F .f32) : F .fp8e4m3 :=
  FloatOps.truncf .fp8e4m3 lt832 (FloatOps.minimumf (Scalar.ofBits .f32 0x43E00000#32)
    (FloatOps.maximumf (Scalar.ofBits .f32 0xC3E00000#32)
      (FloatOps.mulf v (FloatOps.exp2 (FloatOps.subf (Scalar.ofBits .f32 0x00000000#32) e)))))

end Cert.Quant
-- ==== Proof.Value.Math.lean ====
/- The quantiser over the extended reals: the exponent field found bit by bit is the floor of the base-two logarithm, so the
scale and the inverse scale read from bits are the powers of two the reference forms. -/
module

public import proofs.«01_k».proof.Proof.Value.Quant
public import Idealize.ShloMosaic.Lib.Pointwise

@[expose] public section

noncomputable section

namespace Cert.Quant

open Idealize.ShloMosaic

/-- The pattern with exponent field `k` and nothing else. -/
def w (k : ℕ) : BitVec 32 := BitVec.ofNat 32 (k * 8388608)

/-- What that pattern denotes. -/
def pat (k : ℕ) : EReal := Ideal.ofBits .f32 (w k)

theorem w_ext (k : ℕ) (h : k < 256) : ((w k).extractLsb' 31 1 == 1#1) = false ∧ ((w k).extractLsb' 23 8).toNat = k
    ∧ ((w k).extractLsb' 0 23).toNat = 0 := by
  have h1 : (w k).toNat = k * 8388608 := by
    simp only [w, BitVec.toNat_ofNat]; omega
  refine ⟨?_, ?_, ?_⟩
  · have : (w k).extractLsb' 31 1 = 0#1 := by
      apply BitVec.eq_of_toNat_eq
      rw [BitVec.extractLsb'_toNat, h1, Nat.shiftRight_eq_div_pow]
      simp only [BitVec.toNat_ofNat]; omega
    rw [this]; rfl
  · rw [BitVec.extractLsb'_toNat, h1, Nat.shiftRight_eq_div_pow]; omega
  · rw [BitVec.extractLsb'_toNat, h1, Nat.shiftRight_eq_div_pow]; omega

theorem pat_mid (k : ℕ) (h0 : 0 < k) (h : k < 255) : pat k = (((2 : ℝ) ^ ((k : ℤ) - 127) : ℝ) : EReal) := by
  obtain ⟨h1, h2, h3⟩ := w_ext k (by omega)
  show Ideal.ieee 8 23 (w k) = _
  simp only [Ideal.ieee]
  rw [h1, h2, h3, if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num : (2 : ℝ) ≠ 0)]
  congr 1; ring

theorem pat_zero : pat 0 = 0 := by
  obtain ⟨h1, h2, h3⟩ := w_ext 0 (by omega)
  show Ideal.ieee 8 23 (w 0) = _
  simp only [Ideal.ieee]
  rw [h1, h2, h3, if_neg (by omega), if_pos rfl]
  simp

theorem pat_top : pat 255 = ⊤ := by
  obtain ⟨h1, h2, h3⟩ := w_ext 255 (by omega)
  show Ideal.ieee 8 23 (w 255) = _
  simp only [Ideal.ieee]
  rw [h1, h2, h3, if_pos (by omega), if_pos rfl]
  simp

/-- `e` is the pattern of the greatest multiple of `2 ^ j` whose float is at most `c`. -/
def Found (j : ℕ) (c : EReal) (e : BitVec 32) : Prop :=
  ∃ k, e = w k ∧ 2 ^ j ∣ k ∧ k + 2 ^ j ≤ 256 ∧ pat k ≤ c ∧ (k + 2 ^ j = 256 ∨ c < pat (k + 2 ^ j))

theorem step_found (j : ℕ) (bit : BitVec 32) (c : EReal) (e : BitVec 32)
    (hor : ∀ k : Fin 256, 2 ^ (j + 1) ∣ k.val → IntOp.ori (w k.val) bit = w (k.val + 2 ^ j))
    (h : Found (j + 1) c e) : Found j c (step (F := Ideal) c bit e) := by
  obtain ⟨k, rfl, hd, hle, hk, hc⟩ := h
  have hp : 0 < 2 ^ j := Nat.two_pow_pos j
  have hs : 2 ^ (j + 1) = 2 ^ j + 2 ^ j := by rw [pow_succ]; omega
  have ho := hor ⟨k, by omega⟩ hd
  simp only at ho
  have hd' : 2 ^ j ∣ k := (pow_dvd_pow 2 (Nat.le_succ j)).trans hd
  unfold step
  rw [ho]
  show Found j c (Scalar.select (Ideal.cmp .oge c (pat (k + 2 ^ j))) (w (k + 2 ^ j)) (w k))
  by_cases hx : pat (k + 2 ^ j) ≤ c
  · rw [show Ideal.cmp .oge c (pat (k + 2 ^ j)) = 1#1 by simp [Ideal.cmp, hx]]
    refine ⟨k + 2 ^ j, rfl, Nat.dvd_add hd' (dvd_refl _), by omega, hx, ?_⟩
    rw [hs, ← Nat.add_assoc] at hc
    exact hc
  · rw [show Ideal.cmp .oge c (pat (k + 2 ^ j)) = 0#1 by simp [Ideal.cmp, hx]]
    exact ⟨k, rfl, hd', by omega, hk, Or.inr (lt_of_not_ge hx)⟩

theorem field_found (c : EReal) (hc : 0 ≤ c) : Found 0 c (field (F := Ideal) c) := by
  unfold field
  refine step_found 0 _ c _ (by decide +kernel) ?_
  refine step_found 1 _ c _ (by decide +kernel) ?_
  refine step_found 2 _ c _ (by decide +kernel) ?_
  refine step_found 3 _ c _ (by decide +kernel) ?_
  refine step_found 4 _ c _ (by decide +kernel) ?_
  refine step_found 5 _ c _ (by decide +kernel) ?_
  refine step_found 6 _ c _ (by decide +kernel) ?_
  refine step_found 7 _ c _ (by decide +kernel) ?_
  exact ⟨0, rfl, dvd_zero _, by norm_num, by rw [pat_zero]; exact hc, Or.inl rfl⟩

/-- What `1/448` rounds to. -/
def kappa : EReal := Ideal.ofBits .f32 0x3B124925#32

theorem kappa_eq : kappa = ((9586981 * (2 : ℝ) ^ (-32 : ℤ) : ℝ) : EReal) := by
  show Ideal.ieee 8 23 (0x3B124925#32) = _
  simp only [Ideal.ieee]
  rw [show ((0x3B124925#32).extractLsb' (8 + 23) 1 == 1#1) = false by decide,
    show ((0x3B124925#32).extractLsb' 23 8).toNat = 118 by decide,
    show ((0x3B124925#32).extractLsb' 0 23).toNat = 1198373 by decide, if_neg (by omega), if_neg (by omega)]
  congr 1
  norm_num

/-- The greatest finite bfloat16. -/
def big : EReal := Ideal.ofBits .bf16 0x7F7F#16

theorem big_eq : big = ((255 * (2 : ℝ) ^ (120 : ℤ) : ℝ) : EReal) := by
  show Ideal.ieee 8 7 (0x7F7F#16) = _
  simp only [Ideal.ieee]
  rw [show ((0x7F7F#16).extractLsb' (8 + 7) 1 == 1#1) = false by decide,
    show ((0x7F7F#16).extractLsb' 7 8).toNat = 254 by decide,
    show ((0x7F7F#16).extractLsb' 0 7).toNat = 127 by decide, if_neg (by omega), if_neg (by omega)]
  congr 1
  norm_num

/-- The reference's exponent of a group whose greatest magnitude is `a`. -/
def refExp (a : EReal) : EReal :=
  Scalar.select (Ideal.cmp .oeq a (Ideal.ofBits .f32 0x00000000#32)) (Ideal.ofBits .f32 0x00000000#32)
    (Scalar.select (IntOp.andi (Ideal.cmp .oge (a * kappa) (Ideal.ofBits .f32 0x00800000#32))
        (Ideal.cmp .olt (a * kappa) (Ideal.ofBits .f32 0x7F800000#32)))
      (Ideal.liftRound Int.floor (Ideal.div (Ideal.log (a * kappa)) (Ideal.log (Ideal.ofBits .f32 0x40000000#32)))
        + Ideal.ofBits .f32 0x3F800000#32)
      (Ideal.ofBits .f32 0x00000000#32))

theorem expOf_ideal (a : EReal) : expOf (F := Ideal) a = refExp a := rfl

/-- A greatest magnitude a bfloat16 group can have. -/
def InRange (a : EReal) : Prop := 0 ≤ a ∧ (a ≤ big ∨ a = ⊤)

theorem two_eq : Ideal.ofBits .f32 0x40000000#32 = ((2 : ℝ) : EReal) := by
  have := pat_mid 128 (by omega) (by omega)
  rw [show Ideal.ofBits .f32 0x40000000#32 = pat 128 from rfl, this]; norm_num

theorem one_eq : Ideal.ofBits .f32 0x3F800000#32 = ((1 : ℝ) : EReal) := by
  have := pat_mid 127 (by omega) (by omega)
  rw [show Ideal.ofBits .f32 0x3F800000#32 = pat 127 from rfl, this]; norm_num

theorem zero_eq : Ideal.ofBits .f32 0x00000000#32 = 0 := pat_zero

theorem exp2_int (n : ℤ) : Ideal.exp2 ((n : ℝ) : EReal) = (((2 : ℝ) ^ n : ℝ) : EReal) := by
  show ((Real.rpow 2 (n : ℝ) : ℝ) : EReal) = _
  congr 1
  exact Real.rpow_intCast 2 n

/-- The reference's exponent where the scaled maximum is a positive real. -/
theorem refExp_real (a : EReal) (r : ℝ) (n : ℤ) (ha : a * kappa = (r : EReal)) (ha0 : a ≠ 0)
    (h1 : (2 : ℝ) ^ n ≤ r) (h2 : r < (2 : ℝ) ^ (n + 1)) (hn : -126 ≤ n) : refExp a = (((n + 1 : ℤ) : ℝ) : EReal) := by
  have hr : 0 < r := lt_of_lt_of_le (by positivity) h1
  unfold refExp
  rw [zero_eq, ha, two_eq, one_eq, show Ideal.ofBits .f32 0x00800000#32 = pat 1 from rfl,
    show Ideal.ofBits .f32 0x7F800000#32 = pat 255 from rfl, pat_top, pat_mid 1 (by omega) (by omega)]
  have e1 : Ideal.cmp .oeq a 0 = 0#1 := by simp [Ideal.cmp, ha0]
  have e2 : Ideal.cmp .oge (r : EReal) (((2 : ℝ) ^ (((1 : ℕ) : ℤ) - 127) : ℝ) : EReal) = 1#1 := by
    have : (2 : ℝ) ^ (((1 : ℕ) : ℤ) - 127) ≤ r :=
      le_trans (zpow_le_zpow_right₀ (by norm_num) (by norm_num; omega)) h1
    have h' : (((2 : ℝ) ^ (((1 : ℕ) : ℤ) - 127) : ℝ) : EReal) ≤ (r : EReal) := EReal.coe_le_coe_iff.2 this
    unfold Ideal.cmp
    simp only [h', decide_true]; rfl
  have e3 : Ideal.cmp .olt (r : EReal) ⊤ = 1#1 := by
    unfold Ideal.cmp
    simp only [EReal.coe_lt_top r, decide_true]; rfl
  rw [e1, e2, e3]
  show Ideal.liftRound Int.floor (Ideal.div (Ideal.log (r : EReal)) (Ideal.log ((2 : ℝ) : EReal))) + ((1 : ℝ) : EReal) = _
  have l1 : Ideal.log (r : EReal) = (Real.log r : EReal) := by
    show (if r ≤ 0 then ⊥ else (Real.log r : EReal)) = _
    rw [if_neg (by linarith)]
  have l2 : Ideal.log ((2 : ℝ) : EReal) = (Real.log 2 : EReal) := by
    show (if (2 : ℝ) ≤ 0 then ⊥ else (Real.log 2 : EReal)) = _
    rw [if_neg (by norm_num)]
  have hl : 0 < Real.log 2 := Real.log_pos (by norm_num)
  have l3 : Ideal.div (Real.log r : EReal) (Real.log 2 : EReal) = ((Real.log r / Real.log 2 : ℝ) : EReal) := by
    unfold Ideal.div
    rw [if_neg (by exact_mod_cast hl.ne'), ← EReal.coe_inv, ← EReal.coe_mul, div_eq_mul_inv]
  rw [l1, l2, l3]
  show (((⌊Real.log r / Real.log 2⌋ : ℤ) : ℝ) : EReal) + ((1 : ℝ) : EReal) = _
  have hf : ⌊Real.log r / Real.log 2⌋ = n := by
    rw [Int.floor_eq_iff]
    constructor
    · rw [le_div_iff₀ hl, ← Real.log_zpow]
      exact Real.log_le_log (by positivity) h1
    · rw [div_lt_iff₀ hl, show ((n : ℝ) + 1) = ((n + 1 : ℤ) : ℝ) by push_cast; ring, ← Real.log_zpow]
      exact Real.log_lt_log hr h2
  rw [hf, ← EReal.coe_add]
  congr 1
  push_cast; ring

theorem refExp_zero : refExp 0 = 0 := by
  unfold refExp
  rw [zero_eq, show Ideal.cmp .oeq (0 : EReal) 0 = 1#1 by simp [Ideal.cmp]]
  rfl

theorem refExp_small (a : EReal) (h : a * kappa < pat 1) : refExp a = 0 := by
  unfold refExp
  rw [zero_eq, show Ideal.ofBits .f32 0x00800000#32 = pat 1 from rfl]
  have hn : ¬ pat 1 ≤ a * kappa := not_le.2 h
  have e2 : Ideal.cmp .oge (a * kappa) (pat 1) = 0#1 := by
    unfold Ideal.cmp
    simp only [hn, decide_false]; rfl
  rw [e2]
  have : ∀ c d : BitVec 1, ∀ x : EReal, Scalar.select d (0 : EReal) (Scalar.select (IntOp.andi 0#1 c) x 0) = 0 := by
    intro c d x
    rw [show IntOp.andi 0#1 c = 0#1 by revert c; decide, show Scalar.select (0#1) x (0 : EReal) = 0 from rfl]
    show (if d = 1 then (0 : EReal) else 0) = 0
    split <;> rfl
  exact this _ _ _

theorem refExp_top (a : EReal) (h : a * kappa = ⊤) : refExp a = 0 := by
  unfold refExp
  rw [zero_eq, show Ideal.ofBits .f32 0x7F800000#32 = pat 255 from rfl, pat_top, h]
  have e2 : Ideal.cmp .olt (⊤ : EReal) ⊤ = 0#1 := by simp [Ideal.cmp]
  rw [e2]
  have : ∀ c d : BitVec 1, ∀ x : EReal, Scalar.select d (0 : EReal) (Scalar.select (IntOp.andi c 0#1) x 0) = 0 := by
    intro c d x
    rw [show IntOp.andi c 0#1 = 0#1 by revert c; decide, show Scalar.select (0#1) x (0 : EReal) = 0 from rfl]
    show (if d = 1 then (0 : EReal) else 0) = 0
    split <;> rfl
  exact this _ _ _

theorem fixed_words : ∀ k : Fin 256,
    Scalar.select (IntOp.ori (IntOp.cmpi .eq (w k.val) 0#32) (IntOp.cmpi .eq (w k.val) 2139095040#32)) 1056964608#32 (w k.val)
      = w (if k.val = 0 ∨ k.val = 255 then 126 else k.val) := by decide +kernel

theorem next_words : ∀ k : Fin 255, IntOp.addi (w k.val) 8388608#32 = w (k.val + 1) := by decide +kernel

theorem prev_words : ∀ k : Fin 254, IntOp.subi 2122317824#32 (w k.val) = w (253 - k.val) := by decide +kernel

/-- The kernel's scale and inverse scale are the reference's powers of two. -/
theorem scale_inv (a : EReal) (h : InRange a) : ∃ n : ℤ, refExp a = ((n : ℝ) : EReal)
    ∧ scale (F := Ideal) (a * kappa) = (((2 : ℝ) ^ n : ℝ) : EReal)
    ∧ inv (F := Ideal) (a * kappa) = (((2 : ℝ) ^ (-n) : ℝ) : EReal) := by
  have hk0 : (0 : EReal) ≤ kappa := by
    rw [kappa_eq]; exact_mod_cast (by positivity : (0 : ℝ) ≤ 9586981 * (2 : ℝ) ^ (-32 : ℤ))
  obtain ⟨k, he, -, hk, hle, hlt⟩ := field_found (a * kappa) (mul_nonneg h.1 hk0)
  simp only [pow_zero] at hk hlt
  have hfix : fixed (F := Ideal) (a * kappa) = w (if k = 0 ∨ k = 255 then 126 else k) := by
    unfold fixed
    rw [he]
    exact fixed_words ⟨k, by omega⟩
  have key : ∀ k' : ℕ, 1 ≤ k' → k' ≤ 252 ∨ k' = 253 - 0 → fixed (F := Ideal) (a * kappa) = w k' → k' < 253 →
      scale (F := Ideal) (a * kappa) = (((2 : ℝ) ^ ((k' : ℤ) - 126) : ℝ) : EReal)
      ∧ inv (F := Ideal) (a * kappa) = (((2 : ℝ) ^ (-((k' : ℤ) - 126)) : ℝ) : EReal) := by
    intro k' h1 _ hf h2
    constructor
    · unfold scale
      rw [hf, next_words ⟨k', by omega⟩]
      show pat (k' + 1) = _
      rw [pat_mid _ (by omega) (by omega)]
      congr 2; push_cast; ring
    · unfold inv
      rw [hf, prev_words ⟨k', by omega⟩]
      show pat (253 - k') = _
      rw [pat_mid _ (by omega) (by omega)]
      congr 2; omega
  by_cases hs : k = 0 ∨ k = 255
  · rw [if_pos hs] at hfix
    have hk := key 126 (by omega) (by omega) hfix (by omega)
    refine ⟨0, ?_, ?_, ?_⟩
    · rcases hs with rfl | rfl
      · rcases hlt with h' | h'
        · omega
        · rw [refExp_small a h']; simp
      · rw [pat_top, top_le_iff] at hle
        rw [refExp_top a hle]; simp
    · rw [hk.1]; norm_num
    · rw [hk.2]; norm_num
  · rw [if_neg hs] at hfix
    have hlt' : a * kappa < pat (k + 1) := by
      rcases hlt with h' | h'
      · omega
      · exact h'
    have hnt : a ≠ ⊤ := by
      rintro rfl
      rw [EReal.top_mul_of_pos (by rw [kappa_eq]; exact_mod_cast (by positivity : (0 : ℝ) < 9586981 * (2 : ℝ) ^ (-32 : ℤ)))] at hlt'
      exact absurd hlt' (not_lt.2 le_top)
    have hb : a ≤ big := h.2.resolve_right hnt
    obtain ⟨x, rfl⟩ : ∃ x : ℝ, a = (x : EReal) := by
      lift a to ℝ using ⟨hnt, fun hbot => by rw [hbot] at h; exact absurd h.1 (by simp)⟩
      exact ⟨a, rfl⟩
    rw [big_eq] at hb
    have hb' : x ≤ 255 * (2 : ℝ) ^ (120 : ℤ) := EReal.coe_le_coe_iff.1 hb
    have hprod : (x : EReal) * kappa = ((x * (9586981 * (2 : ℝ) ^ (-32 : ℤ)) : ℝ) : EReal) := by
      rw [kappa_eq, ← EReal.coe_mul]
    set r : ℝ := x * (9586981 * (2 : ℝ) ^ (-32 : ℤ)) with hr
    have hrb : r < (2 : ℝ) ^ (120 : ℤ) := by
      have : r ≤ 255 * (2 : ℝ) ^ (120 : ℤ) * (9586981 * (2 : ℝ) ^ (-32 : ℤ)) := by
        rw [hr]; exact mul_le_mul_of_nonneg_right hb' (by positivity)
      refine lt_of_le_of_lt this ?_
      norm_num
    rw [hprod, pat_mid k (by omega) (by omega), EReal.coe_le_coe_iff] at hle
    have hk247 : k < 248 := by
      by_contra hcon
      have : (2 : ℝ) ^ (120 : ℤ) ≤ (2 : ℝ) ^ ((k : ℤ) - 127) := zpow_le_zpow_right₀ (by norm_num) (by omega)
      linarith
    rw [hprod, pat_mid (k + 1) (by omega) (by omega), EReal.coe_lt_coe_iff] at hlt'
    have hx0 : (x : EReal) ≠ 0 := by
      intro hx
      have hx' : x = 0 := by exact_mod_cast hx
      have : (0 : ℝ) < (2 : ℝ) ^ ((k : ℤ) - 127) := by positivity
      rw [hr, hx', zero_mul] at hle
      linarith
    refine ⟨(k : ℤ) - 126, ?_, (key k (by omega) (by omega) hfix (by omega)).1, (key k (by omega) (by omega) hfix (by omega)).2⟩
    rw [refExp_real _ r ((k : ℤ) - 127) hprod hx0 hle (by convert hlt' using 2; push_cast; ring) (by omega)]
    congr 2; ring

/-- The greatest magnitude of a group of 128. -/
def gmax (f : Fin 128 → EReal) : EReal := Finset.univ.fold max (Ideal.ofBits .f32 0xFF800000#32) (fun k => max (f k) (-(f k)))

/-- The reference's scale and clipped code of a value in a group whose greatest magnitude is `a`. -/
def refScale (a : EReal) : EReal := Ideal.exp2 (refExp a)
def refCode (v a : EReal) : EReal :=
  min (Ideal.ofBits .f32 0x43E00000#32) (max (Ideal.ofBits .f32 0xC3E00000#32) (v * Ideal.exp2 (Ideal.ofBits .f32 0x00000000#32 - refExp a)))

theorem scale_eq (a : EReal) (h : InRange a) : scale (F := Ideal) (a * kappa) = refScale a := by
  obtain ⟨n, h1, h2, -⟩ := scale_inv a h
  rw [h2, refScale, h1, exp2_int]

theorem inv_eq (a : EReal) (h : InRange a) :
    inv (F := Ideal) (a * kappa) = Ideal.exp2 (Ideal.ofBits .f32 0x00000000#32 - refExp a) := by
  obtain ⟨n, h1, -, h2⟩ := scale_inv a h
  rw [h2, h1, zero_eq, zero_sub, ← EReal.coe_neg, ← Int.cast_neg, exp2_int]

theorem code_eq (v a : EReal) (h : InRange a) : code (F := Ideal) v (a * kappa) = refCode v a := by
  show min _ (max _ (v * inv (F := Ideal) (a * kappa))) = _
  rw [inv_eq a h]; rfl

theorem deq_eq (v a : EReal) (h : InRange a) : deq (F := Ideal) v (a * kappa) = refCode v a * refScale a := by
  show code (F := Ideal) v (a * kappa) * scale (F := Ideal) (a * kappa) = _
  rw [code_eq v a h, scale_eq a h]

theorem refScale_real (a : EReal) (h : InRange a) : ∃ r : ℝ, refScale a = (r : EReal) := by
  obtain ⟨n, h1, -, -⟩ := scale_inv a h
  exact ⟨_, by rw [refScale, h1, exp2_int]⟩

theorem hi_eq : Ideal.ofBits .f32 0x43E00000#32 = ((448 : ℝ) : EReal) := by
  show Ideal.ieee 8 23 (0x43E00000#32) = _
  simp only [Ideal.ieee]
  rw [show ((0x43E00000#32).extractLsb' (8 + 23) 1 == 1#1) = false by decide,
    show ((0x43E00000#32).extractLsb' 23 8).toNat = 135 by decide,
    show ((0x43E00000#32).extractLsb' 0 23).toNat = 6291456 by decide, if_neg (by omega), if_neg (by omega)]
  congr 1
  norm_num

theorem lo_eq : Ideal.ofBits .f32 0xC3E00000#32 = ((-448 : ℝ) : EReal) := by
  show Ideal.ieee 8 23 (0xC3E00000#32) = _
  simp only [Ideal.ieee]
  rw [show ((0xC3E00000#32).extractLsb' (8 + 23) 1 == 1#1) = true by decide,
    show ((0xC3E00000#32).extractLsb' 23 8).toNat = 135 by decide,
    show ((0xC3E00000#32).extractLsb' 0 23).toNat = 6291456 by decide, if_neg (by omega), if_neg (by omega)]
  congr 1
  norm_num

theorem refCode_real (v a : EReal) : ∃ r : ℝ, refCode v a = (r : EReal) := by
  have h1 : refCode v a ≤ ((448 : ℝ) : EReal) := by unfold refCode; rw [hi_eq]; exact min_le_left _ _
  have h2 : ((-448 : ℝ) : EReal) ≤ refCode v a := by
    unfold refCode; rw [hi_eq, lo_eq]
    exact le_min (by exact_mod_cast (by norm_num : (-448 : ℝ) ≤ 448)) (le_max_left _ _)
  have ht : refCode v a ≠ ⊤ := fun h => by rw [h] at h1; exact absurd h1 (not_le.2 (EReal.coe_lt_top _))
  have hb : refCode v a ≠ ⊥ := fun h => by rw [h] at h2; exact absurd h2 (not_le.2 (EReal.bot_lt_coe _))
  lift refCode v a to ℝ using ⟨ht, hb⟩ with r
  exact ⟨r, rfl⟩

theorem neg_inf_eq : Ideal.ofBits .f32 0xFF800000#32 = ⊥ := by
  show Ideal.ieee 8 23 (0xFF800000#32) = _
  simp only [Ideal.ieee]
  rw [show ((0xFF800000#32).extractLsb' (8 + 23) 1 == 1#1) = true by decide,
    show ((0xFF800000#32).extractLsb' 23 8).toNat = 255 by decide,
    show ((0xFF800000#32).extractLsb' 0 23).toNat = 0 by decide, if_pos (by omega), if_pos rfl]
  simp

theorem gmax_eq_sup (f : Fin 128 → EReal) : gmax f = Finset.univ.sup fun k => max (f k) (-(f k)) := by
  unfold gmax; rw [neg_inf_eq]; rfl

/-- A group every magnitude of which is a bfloat16's has such a greatest magnitude. -/
theorem inRange_gmax (f : Fin 128 → EReal) (h : ∀ k, max (f k) (-(f k)) ≤ big ∨ max (f k) (-(f k)) = ⊤) : InRange (gmax f) := by
  rw [gmax_eq_sup]
  constructor
  · refine le_trans ?_ (Finset.le_sup (f := fun k => max (f k) (-(f k))) (Finset.mem_univ (0 : Fin 128)))
    rcases le_total 0 (f 0) with h0 | h0
    · exact le_max_of_le_left h0
    · exact le_max_of_le_right (by simpa using EReal.neg_le_neg_iff.2 h0)
  · by_cases hx : ∃ k, max (f k) (-(f k)) = ⊤
    · obtain ⟨k, hk⟩ := hx
      right
      rw [← top_le_iff, ← hk]
      exact Finset.le_sup (f := fun k => max (f k) (-(f k))) (Finset.mem_univ k)
    · left
      refine Finset.sup_le fun k _ => (h k).resolve_right fun hk => hx ⟨k, hk⟩

/-- The group of a column of the contraction, and its members. -/
def gof (k : Fin 1664) : Fin 13 := ⟨k.val / 128, by have := k.isLt; omega⟩
def gk (g : Fin 13) (l : Fin 128) : Fin 1664 := ⟨g.val * 128 + l.val, by have := g.isLt; have := l.isLt; omega⟩

theorem coe_sum {n : ℕ} (f : Fin n → ℝ) : ((∑ k, f k : ℝ) : EReal) = ∑ k, (f k : EReal) :=
  map_sum (⟨⟨fun r : ℝ => (r : EReal), EReal.coe_zero⟩, EReal.coe_add⟩ : ℝ →+ EReal) f Finset.univ

/-- The contraction cut into its first twelve groups and the last, whose scales come out of the sum. -/
theorem dot_cut (xc wc : Fin 1664 → EReal) (xs ws : Fin 13 → EReal) (hxc : ∀ k, ∃ r : ℝ, xc k = r) (hwc : ∀ k, ∃ r : ℝ, wc k = r)
    (hxs : ∀ g, ∃ r : ℝ, xs g = r) (hws : ∀ g, ∃ r : ℝ, ws g = r) :
    (∑ k : Fin 1536, (xc ⟨k.val, by have := k.isLt; omega⟩ * xs (gof ⟨k.val, by have := k.isLt; omega⟩))
        * (wc ⟨k.val, by have := k.isLt; omega⟩ * ws (gof ⟨k.val, by have := k.isLt; omega⟩)))
      + (∑ l : Fin 128, xc (gk 12 l) * wc (gk 12 l)) * (xs 12 * ws 12)
    = ∑ k : Fin 1664, (xc k * xs (gof k)) * (wc k * ws (gof k)) := by
  choose xc' hxc using hxc
  choose wc' hwc using hwc
  choose xs' hxs using hxs
  choose ws' hws using hws
  simp only [hxc, hwc, hxs, hws]
  simp only [← EReal.coe_mul, ← coe_sum, ← EReal.coe_add]
  congr 1
  refine Eq.trans ?_ (Fin.sum_univ_add (a := 1536) (b := 128) (fun k : Fin 1664 => xc' k * xs' (gof k) * (wc' k * ws' (gof k)))).symm
  rw [Finset.sum_mul]
  congr 1
  refine Finset.sum_congr rfl fun l _ => ?_
  have e1 : (Fin.natAdd 1536 l : Fin (1536 + 128)) = gk 12 l := by
    apply Fin.ext; rw [Fin.val_natAdd]; show 1536 + l.val = 12 * 128 + l.val; omega
  have e2 : gof (gk 12 l) = 12 := by
    apply Fin.ext; show (12 * 128 + l.val) / 128 = 12; have := l.isLt; omega
  have e3 : gof (Fin.natAdd 1536 l : Fin (1536 + 128)) = 12 := by rw [e1]; exact e2
  show _ = xc' (Fin.natAdd 1536 l) * xs' (gof (Fin.natAdd 1536 l)) * (wc' (Fin.natAdd 1536 l) * ws' (gof (Fin.natAdd 1536 l)))
  rw [e3, e1]
  ring

end Cert.Quant
-- ==== Proof.Value.X.lean ====
/- What the first kernel call leaves in each block: the codes, the dequantised values and the scales of 512 rows. -/
module

public import proofs.«01_k».proof.Proof.Value.Math
public import proofs.«01_k».proof.Proof.KernelIdeal.Region0

@[expose] public section

noncomputable section

namespace Cert.KernelIdeal.Gen

open Idealize.ShloMosaic Cert.Quant

section Generic

variable {F : FTy → Type} [FloatOps F]

def xcodes (v : Vec F S512x128 .bf16) : FVec F S512x128 .fp8e4m3 := fun i => Quant.code (k0_pay4 v i) (k0_pay5 v i)
def xscale (v : Vec F S512x128 .bf16) : FVec F S512x128 .f32 := fun i => Quant.scale (k0_pay5 v i)
def xdeq (v : Vec F S512x128 .bf16) : FVec F S512x128 .bf16 := fun i => Quant.deq (k0_pay4 v i) (k0_pay5 v i)

theorem out0_1_eq (x0 : Vec F S512x1664 .bf16) : out0_1 x0 = View.canon [⟨r0_24, xcodes (View.ld x0 r0_24)⟩, ⟨r0_22, xcodes (View.ld x0 r0_22)⟩,
    ⟨r0_20, xcodes (View.ld x0 r0_20)⟩, ⟨r0_18, xcodes (View.ld x0 r0_18)⟩, ⟨r0_16, xcodes (View.ld x0 r0_16)⟩,
    ⟨r0_14, xcodes (View.ld x0 r0_14)⟩, ⟨r0_12, xcodes (View.ld x0 r0_12)⟩, ⟨r0_10, xcodes (View.ld x0 r0_10)⟩,
    ⟨r0_8, xcodes (View.ld x0 r0_8)⟩, ⟨r0_6, xcodes (View.ld x0 r0_6)⟩, ⟨r0_4, xcodes (View.ld x0 r0_4)⟩,
    ⟨r0_2, xcodes (View.ld x0 r0_2)⟩, ⟨r0_0, xcodes (View.ld x0 r0_0)⟩] := rfl

theorem out0_3_eq (x0 : Vec F S512x1664 .bf16) : out0_3 x0 = View.canon [⟨r0_23, xdeq (View.ld x0 r0_22)⟩,
    ⟨r0_21, xdeq (View.ld x0 r0_20)⟩, ⟨r0_19, xdeq (View.ld x0 r0_18)⟩, ⟨r0_17, xdeq (View.ld x0 r0_16)⟩,
    ⟨r0_15, xdeq (View.ld x0 r0_14)⟩, ⟨r0_13, xdeq (View.ld x0 r0_12)⟩, ⟨r0_11, xdeq (View.ld x0 r0_10)⟩,
    ⟨r0_9, xdeq (View.ld x0 r0_8)⟩, ⟨r0_7, xdeq (View.ld x0 r0_6)⟩, ⟨r0_5, xdeq (View.ld x0 r0_4)⟩,
    ⟨r0_3, xdeq (View.ld x0 r0_2)⟩, ⟨r0_1, xdeq (View.ld x0 r0_0)⟩] := rfl

theorem out0_4_eq (x0 : Vec F S512x1664 .bf16) : out0_4 x0 = View.canon [⟨r0_25, xscale (View.ld x0 r0_24)⟩] := rfl

/-- Group `k`'s scale on its lane, what the earlier groups left on the others. -/
def put (x0 : Vec F S512x1664 .bf16) (k : BitVec 32) (s : FVec F S512x128 .f32) (acc : FVec F S512x128 .f32) : FVec F S512x128 .f32 :=
  fun i => Scalar.select (IntOp.cmpi .eq (k0_pay133 x0 i) k) (s i) (acc i)

def xscales (x0 : Vec F S512x1664 .bf16) : FVec F S512x128 .f32 :=
  put x0 12#32 (xscale (View.ld x0 r0_24)) <| put x0 11#32 (xscale (View.ld x0 r0_22)) <| put x0 10#32 (xscale (View.ld x0 r0_20)) <|
  put x0 9#32 (xscale (View.ld x0 r0_18)) <| put x0 8#32 (xscale (View.ld x0 r0_16)) <| put x0 7#32 (xscale (View.ld x0 r0_14)) <|
  put x0 6#32 (xscale (View.ld x0 r0_12)) <| put x0 5#32 (xscale (View.ld x0 r0_10)) <| put x0 4#32 (xscale (View.ld x0 r0_8)) <|
  put x0 3#32 (xscale (View.ld x0 r0_6)) <| put x0 2#32 (xscale (View.ld x0 r0_4)) <| put x0 1#32 (xscale (View.ld x0 r0_2)) <|
  put x0 0#32 (xscale (View.ld x0 r0_0)) k0_pay3

theorem out0_2_eq (x0 : Vec F S512x1664 .bf16) : out0_2 x0 = View.canon [⟨r0_26, extractStridedSlice S512x13 ![0, 0] (xscales x0) slices_S512x128_o0_0_S512x13⟩] := rfl

end Generic

theorem c_at (v : Vec Ideal S512x128 .bf16) (r : Fin 512) (l : Fin 128) :
    k0_pay5 v (ix2 r l) = gmax (fun l' => v (ix2 r l')) * kappa := by
  unfold gmax
  have h : ∀ l' : Fin 128, (absf (F := Ideal) v : FVec Ideal S512x128 .bf16) (ix2 r l') = max (v (ix2 r l')) (-(v (ix2 r l'))) := by
    intro l'; rfl
  simp only [← h]
  pointwise [k0_pay5, k0_pay4]
  rw [show kappa = Ideal.ofBits FTy.f32 991054117#32 from rfl]

theorem v_at (v : Vec Ideal S512x128 .bf16) (r : Fin 512) (l : Fin 128) : k0_pay4 v (ix2 r l) = v (ix2 r l) := by
  pointwise [k0_pay4]

variable (x0 : Vec Ideal S512x1664 .bf16)

/-- The scaled greatest magnitude of group `g` of row `r`. -/
def cb (r : Fin 512) (g : Fin 13) : EReal := gmax (fun l => x0 (ix2 r (gk g l))) * kappa

theorem emb_in (o : ℕ) (inb : ∀ a, (![0, o] : Fin 2 → ℕ) a + S512x128.size a ≤ S512x1664.size a) (g : Fin 13) (ho : o = g.val * 128)
    (r : Fin 512) (l : Fin 128) : (Rect.unit (s := S512x1664) ![0, o] S512x128.size inb).emb (ix2 r l) = ix2 r (gk g l) := by
  subst ho
  funext a; apply Fin.ext
  match a with
  | ⟨0, _⟩ => show 0 + 1 * r.val = r.val; omega
  | ⟨1, _⟩ => show g.val * 128 + 1 * l.val = g.val * 128 + l.val; omega

theorem ld_at (o : ℕ) (inb : ∀ a, (![0, o] : Fin 2 → ℕ) a + S512x128.size a ≤ S512x1664.size a) (g : Fin 13) (ho : o = g.val * 128)
    (r : Fin 512) (l : Fin 128) : View.ld x0 (Rect.unit (s := S512x1664) ![0, o] S512x128.size inb) (ix2 r l) = x0 (ix2 r (gk g l)) := by
  show x0 ((Rect.unit (s := S512x1664) ![0, o] S512x128.size inb).emb (ix2 r l)) = _
  rw [emb_in o inb g ho]

theorem c_ld (o : ℕ) (inb : ∀ a, (![0, o] : Fin 2 → ℕ) a + S512x128.size a ≤ S512x1664.size a) (g : Fin 13) (ho : o = g.val * 128)
    (r : Fin 512) (l : Fin 128) : k0_pay5 (View.ld x0 (Rect.unit (s := S512x1664) ![0, o] S512x128.size inb)) (ix2 r l) = cb x0 r g := by
  rw [c_at]
  simp only [ld_at x0 o inb g ho]
  rfl

theorem gof_gk (g : Fin 13) (l : Fin 128) : gof (gk g l) = g := by
  apply Fin.ext; show (g.val * 128 + l.val) / 128 = g.val; have := l.isLt; omega

/-- The codes of a block. -/
def XCb : Vec Ideal S512x1664 .fp8e4m3 := fun i => code (F := Ideal) (x0 (ix2 (i 0) (i 1))) (cb x0 (i 0) (gof (i 1)))

theorem codes_piece (o : ℕ) (inb : ∀ a, (![0, o] : Fin 2 → ℕ) a + S512x128.size a ≤ S512x1664.size a) (g : Fin 13) (ho : o = g.val * 128)
    (x : S512x128.Idx) : xcodes (View.ld x0 (Rect.unit (s := S512x1664) ![0, o] S512x128.size inb)) x
      = XCb x0 ((Rect.unit (s := S512x1664) ![0, o] S512x128.size inb).emb x) := by
  obtain ⟨r, l, rfl⟩ : ∃ (r : Fin 512) (l : Fin 128), x = ix2 r l := ⟨x 0, x 1, eq_ix2 x⟩
  rw [emb_in o inb g ho]
  show code (F := Ideal) (k0_pay4 _ (ix2 r l)) (k0_pay5 _ (ix2 r l)) = code (F := Ideal) (x0 (ix2 r (gk g l))) (cb x0 r (gof (gk g l)))
  rw [c_ld x0 o inb g ho, v_at, ld_at x0 o inb g ho, gof_gk]

theorem out0_1_at : out0_1 x0 = XCb x0 := by
  rw [out0_1_eq]
  funext y
  refine View.canon_apply_of_pieces (XCb x0) _ ?_ y (cover0_1 _ _ _ _ _ _ _ _ _ _ _ _ _ y)
  intro pc hpc
  rcases List.mem_cons.mp hpc with rfl | hpc
  · exact codes_piece x0 _ _ 12 rfl
  rcases List.mem_cons.mp hpc with rfl | hpc
  · exact codes_piece x0 _ _ 11 rfl
  rcases List.mem_cons.mp hpc with rfl | hpc
  · exact codes_piece x0 _ _ 10 rfl
  rcases List.mem_cons.mp hpc with rfl | hpc
  · exact codes_piece x0 _ _ 9 rfl
  rcases List.mem_cons.mp hpc with rfl | hpc
  · exact codes_piece x0 _ _ 8 rfl
  rcases List.mem_cons.mp hpc with rfl | hpc
  · exact codes_piece x0 _ _ 7 rfl
  rcases List.mem_cons.mp hpc with rfl | hpc
  · exact codes_piece x0 _ _ 6 rfl
  rcases List.mem_cons.mp hpc with rfl | hpc
  · exact codes_piece x0 _ _ 5 rfl
  rcases List.mem_cons.mp hpc with rfl | hpc
  · exact codes_piece x0 _ _ 4 rfl
  rcases List.mem_cons.mp hpc with rfl | hpc
  · exact codes_piece x0 _ _ 3 rfl
  rcases List.mem_cons.mp hpc with rfl | hpc
  · exact codes_piece x0 _ _ 2 rfl
  rcases List.mem_cons.mp hpc with rfl | hpc
  · exact codes_piece x0 _ _ 1 rfl
  rcases List.mem_cons.mp hpc with rfl | hpc
  · exact codes_piece x0 _ _ 0 rfl
  nomatch hpc

/-- The dequantised values of a block's first twelve groups. -/
def XDb : Vec Ideal S512x1536 .bf16 := fun i =>
  deq (F := Ideal) (x0 (ix2 (i 0) ⟨(i 1).val, by have h : (i 1).val < 1536 := (i 1).isLt; omega⟩))
    (cb x0 (i 0) (gof ⟨(i 1).val, by have h : (i 1).val < 1536 := (i 1).isLt; omega⟩))

theorem deq_piece (o : ℕ) (inb : ∀ a, (![0, o] : Fin 2 → ℕ) a + S512x128.size a ≤ S512x1664.size a)
    (inb' : ∀ a, (![0, o] : Fin 2 → ℕ) a + S512x128.size a ≤ S512x1536.size a) (g : Fin 13) (hg : g.val < 12) (ho : o = g.val * 128)
    (x : S512x128.Idx) : xdeq (View.ld x0 (Rect.unit (s := S512x1664) ![0, o] S512x128.size inb)) x
      = XDb x0 ((Rect.unit (s := S512x1536) ![0, o] S512x128.size inb').emb x) := by
  obtain ⟨r, l, rfl⟩ : ∃ (r : Fin 512) (l : Fin 128), x = ix2 r l := ⟨x 0, x 1, eq_ix2 x⟩
  have he : (Rect.unit (s := S512x1536) ![0, o] S512x128.size inb').emb (ix2 r l)
      = ix2 r (⟨g.val * 128 + l.val, by have := l.isLt; omega⟩ : Fin 1536) := by
    subst ho
    funext a; apply Fin.ext
    match a with
    | ⟨0, _⟩ => show 0 + 1 * r.val = r.val; omega
    | ⟨1, _⟩ => show g.val * 128 + 1 * l.val = g.val * 128 + l.val; omega
  rw [he]
  show deq (F := Ideal) (k0_pay4 _ (ix2 r l)) (k0_pay5 _ (ix2 r l)) = deq (F := Ideal) (x0 (ix2 r (gk g l))) (cb x0 r (gof (gk g l)))
  rw [c_ld x0 o inb g ho, v_at, ld_at x0 o inb g ho, gof_gk]

theorem out0_3_at : out0_3 x0 = XDb x0 := by
  rw [out0_3_eq]
  funext y
  refine View.canon_apply_of_pieces (XDb x0) _ ?_ y (cover0_3 _ _ _ _ _ _ _ _ _ _ _ _ y)
  intro pc hpc
  rcases List.mem_cons.mp hpc with rfl | hpc
  · exact deq_piece x0 1408 _ inb_S512x1536_S512x128_0_1408 11 (by decide) rfl
  rcases List.mem_cons.mp hpc with rfl | hpc
  · exact deq_piece x0 1280 _ inb_S512x1536_S512x128_0_1280 10 (by decide) rfl
  rcases List.mem_cons.mp hpc with rfl | hpc
  · exact deq_piece x0 1152 _ inb_S512x1536_S512x128_0_1152 9 (by decide) rfl
  rcases List.mem_cons.mp hpc with rfl | hpc
  · exact deq_piece x0 1024 _ inb_S512x1536_S512x128_0_1024 8 (by decide) rfl
  rcases List.mem_cons.mp hpc with rfl | hpc
  · exact deq_piece x0 896 _ inb_S512x1536_S512x128_0_896 7 (by decide) rfl
  rcases List.mem_cons.mp hpc with rfl | hpc
  · exact deq_piece x0 768 _ inb_S512x1536_S512x128_0_768 6 (by decide) rfl
  rcases List.mem_cons.mp hpc with rfl | hpc
  · exact deq_piece x0 640 _ inb_S512x1536_S512x128_0_640 5 (by decide) rfl
  rcases List.mem_cons.mp hpc with rfl | hpc
  · exact deq_piece x0 512 _ inb_S512x1536_S512x128_0_512 4 (by decide) rfl
  rcases List.mem_cons.mp hpc with rfl | hpc
  · exact deq_piece x0 384 _ inb_S512x1536_S512x128_0_384 3 (by decide) rfl
  rcases List.mem_cons.mp hpc with rfl | hpc
  · exact deq_piece x0 256 _ inb_S512x1536_S512x128_0_256 2 (by decide) rfl
  rcases List.mem_cons.mp hpc with rfl | hpc
  · exact deq_piece x0 128 _ inb_S512x1536_S512x128_0_128 1 (by decide) rfl
  rcases List.mem_cons.mp hpc with rfl | hpc
  · exact deq_piece x0 0 _ inb_S512x1536_S512x128_0_0 0 (by decide) rfl
  nomatch hpc

/-- The last group's scale on every lane. -/
def XTb : Vec Ideal S512x128 .f32 := fun i => scale (F := Ideal) (cb x0 (i 0) 12)

theorem hz : (![0, 0] : Fin 2 → ℕ) = fun _ => 0 := funext fun a => by fin_cases a <;> rfl

theorem out0_4_at : out0_4 x0 = XTb x0 := by
  rw [out0_4_eq, View.canon_unit_zero hz]
  funext i
  obtain ⟨r, l, rfl⟩ : ∃ (r : Fin 512) (l : Fin 128), i = ix2 r l := ⟨i 0, i 1, eq_ix2 i⟩
  show scale (F := Ideal) (k0_pay5 _ (ix2 r l)) = scale (F := Ideal) (cb x0 r 12)
  rw [c_ld x0 1536 _ 12 rfl]

/-- The scales of a block. -/
def XSb : Vec Ideal S512x13 .f32 := fun i => scale (F := Ideal) (cb x0 (i 0) (i 1))

theorem lane_at (r : Fin 512) (l : Fin 128) : k0_pay133 x0 (ix2 r l) = BitVec.ofNat 32 l.val := by
  pointwise [k0_pay133]

theorem scale_ld (o : ℕ) (inb : ∀ a, (![0, o] : Fin 2 → ℕ) a + S512x128.size a ≤ S512x1664.size a) (g : Fin 13) (ho : o = g.val * 128)
    (r : Fin 512) (l : Fin 128) : xscale (View.ld x0 (Rect.unit (s := S512x1664) ![0, o] S512x128.size inb)) (ix2 r l)
      = scale (F := Ideal) (cb x0 r g) := by
  show scale (F := Ideal) (k0_pay5 _ (ix2 r l)) = _
  rw [c_ld x0 o inb g ho]

theorem pick {α : Type} (f : Fin 13 → α) (z : α) (g : Fin 13) :
    Scalar.select (IntOp.cmpi .eq (BitVec.ofNat 32 g.val) 12#32) (f 12) (Scalar.select (IntOp.cmpi .eq (BitVec.ofNat 32 g.val) 11#32) (f 11) (Scalar.select (IntOp.cmpi .eq (BitVec.ofNat 32 g.val) 10#32) (f 10) (Scalar.select (IntOp.cmpi .eq (BitVec.ofNat 32 g.val) 9#32) (f 9) (Scalar.select (IntOp.cmpi .eq (BitVec.ofNat 32 g.val) 8#32) (f 8) (Scalar.select (IntOp.cmpi .eq (BitVec.ofNat 32 g.val) 7#32) (f 7) (Scalar.select (IntOp.cmpi .eq (BitVec.ofNat 32 g.val) 6#32) (f 6) (Scalar.select (IntOp.cmpi .eq (BitVec.ofNat 32 g.val) 5#32) (f 5) (Scalar.select (IntOp.cmpi .eq (BitVec.ofNat 32 g.val) 4#32) (f 4) (Scalar.select (IntOp.cmpi .eq (BitVec.ofNat 32 g.val) 3#32) (f 3) (Scalar.select (IntOp.cmpi .eq (BitVec.ofNat 32 g.val) 2#32) (f 2) (Scalar.select (IntOp.cmpi .eq (BitVec.ofNat 32 g.val) 1#32) (f 1) (Scalar.select (IntOp.cmpi .eq (BitVec.ofNat 32 g.val) 0#32) (f 0) (z))))))))))))) = f g := by
  fin_cases g <;> rfl

theorem out0_2_at : out0_2 x0 = XSb x0 := by
  rw [out0_2_eq, View.canon_unit_zero hz]
  funext i
  obtain ⟨r, g, rfl⟩ : ∃ (r : Fin 512) (g : Fin 13), i = ix2 r g := ⟨i 0, i 1, eq_ix2 i⟩
  have h : ∀ y : FVec Ideal S512x128 .f32, extractStridedSlice S512x13 ![0, 0] y slices_S512x128_o0_0_S512x13 (ix2 r g)
      = y (ix2 r (⟨g.val, by have := g.isLt; omega⟩ : Fin 128)) := by
    intro y; pointwise
  rw [h]
  show xscales x0 _ = scale (F := Ideal) (cb x0 r g)
  unfold xscales put
  simp only [lane_at]
  rw [scale_ld x0 1536 _ 12 rfl, scale_ld x0 1408 _ 11 rfl, scale_ld x0 1280 _ 10 rfl, scale_ld x0 1152 _ 9 rfl, scale_ld x0 1024 _ 8 rfl,
    scale_ld x0 896 _ 7 rfl, scale_ld x0 768 _ 6 rfl, scale_ld x0 640 _ 5 rfl, scale_ld x0 512 _ 4 rfl, scale_ld x0 384 _ 3 rfl,
    scale_ld x0 256 _ 2 rfl, scale_ld x0 128 _ 1 rfl, scale_ld x0 0 _ 0 rfl]
  exact pick (fun g => scale (F := Ideal) (cb x0 r g)) _ g

end Cert.KernelIdeal.Gen
-- ==== Proof.Value.A0.lean ====
/- The arrays the first kernel call leaves, as functions of the activations flattened to 6144 rows. -/
module

public import Idealize.ShloMosaic.Lib.Pipeline.ValueKit
public import proofs.«01_k».proof.Proof.Value.X

@[expose] public section

noncomputable section

namespace Cert.KernelIdeal.Gen

open Idealize.ShloMosaic Idealize.ShloMosaic.TcCoe Idealize.ShloMosaic.Pipeline Cert.Quant

section Arrays

variable (X : S6144x1664.Idx → EReal)

/-- The scaled greatest magnitude of group `g` of row `r`. -/
def ca (r : Fin 6144) (g : Fin 13) : EReal := gmax (fun l => X (ix2 r (gk g l))) * kappa

def XC : S6144x1664.Idx → EReal := fun i => code (F := Ideal) (X (ix2 (i 0) (i 1))) (ca X (i 0) (gof (i 1)))
def XS : S6144x13.Idx → EReal := fun i => scale (F := Ideal) (ca X (i 0) (i 1))
def XD : S6144x1536.Idx → EReal := fun i =>
  deq (F := Ideal) (X (ix2 (i 0) ⟨(i 1).val, by have h : (i 1).val < 1536 := (i 1).isLt; omega⟩))
    (ca X (i 0) (gof ⟨(i 1).val, by have h : (i 1).val < 1536 := (i 1).isLt; omega⟩))
def XT : S6144x128.Idx → EReal := fun i => scale (F := Ideal) (ca X (i 0) 12)

end Arrays

theorem idx0 : ∀ t : Fin cfg0.N, win0_0.index t = ![t.val, 0] ∧ win0_1.index t = ![t.val, 0] ∧ win0_2.index t = ![t.val, 0]
    ∧ win0_3.index t = ![t.val, 0] ∧ win0_4.index t = ![t.val, 0] := by decide +kernel

variable (V : (c : Dev nD) → (b : Ref sig .tc) → Buf (Elt Ideal) ((c : Thread nD τ).loc b)) (c : Dev nD)

theorem iblk0_at (t : Fin cfg0.N) (r : Fin 512) (k : Fin 1664) (R : Fin 6144) (hR : R.val = t.val * 512 + r.val) :
    iblk0 V c 0 t (ix2 r k) = V c main_v0 (ix2 R k) := by
  have e := idx0 t
  blk_ext [iblk0, e.1]

theorem cb_blk (t : Fin cfg0.N) (r : Fin 512) (g : Fin 13) (R : Fin 6144) (hR : R.val = t.val * 512 + r.val) :
    cb (iblk0 V c 0 t) r g = ca (V c main_v0) R g := by
  unfold cb ca
  congr 2
  funext l
  exact iblk0_at V c t r _ R hR

theorem code_blk (t : Fin cfg0.N) (r : Fin 512) (k K : Fin 1664) (R : Fin 6144) (hR : R.val = t.val * 512 + r.val) (hK : K.val = k.val) :
    code (F := Ideal) (iblk0 V c 0 t (ix2 r k)) (cb (iblk0 V c 0 t) r (gof k)) = code (F := Ideal) (V c main_v0 (ix2 R K)) (ca (V c main_v0) R (gof K)) := by
  obtain rfl : K = k := Fin.ext hK
  rw [cb_blk V c t r _ R hR, iblk0_at V c t r K R hR]

theorem deq_blk (t : Fin cfg0.N) (r : Fin 512) (k K : Fin 1664) (R : Fin 6144) (hR : R.val = t.val * 512 + r.val) (hK : K.val = k.val) :
    deq (F := Ideal) (iblk0 V c 0 t (ix2 r k)) (cb (iblk0 V c 0 t) r (gof k)) = deq (F := Ideal) (V c main_v0 (ix2 R K)) (ca (V c main_v0) R (gof K)) := by
  obtain rfl : K = k := Fin.ext hK
  rw [cb_blk V c t r _ R hR, iblk0_at V c t r K R hR]

theorem scale_blk (t : Fin cfg0.N) (r : Fin 512) (g G : Fin 13) (R : Fin 6144) (hR : R.val = t.val * 512 + r.val) (hG : G.val = g.val) :
    scale (F := Ideal) (cb (iblk0 V c 0 t) r g) = scale (F := Ideal) (ca (V c main_v0) R G) := by
  obtain rfl : G = g := Fin.ext hG
  rw [cb_blk V c t r _ R hR]

theorem XCb_blk (t : Fin cfg0.N) (y : S512x1664.Idx) (j : S6144x1664.Idx) (h0 : (j 0).val = t.val * 512 + (y 0).val)
    (h1 : (j 1).val = (y 1).val) : XCb (iblk0 V c 0 t) y = XC (V c main_v0) j :=
  code_blk V c t (y 0) (y 1) (j 1) (j 0) h0 h1

theorem XSb_blk (t : Fin cfg0.N) (y : S512x13.Idx) (j : S6144x13.Idx) (h0 : (j 0).val = t.val * 512 + (y 0).val)
    (h1 : (j 1).val = (y 1).val) : XSb (iblk0 V c 0 t) y = XS (V c main_v0) j :=
  scale_blk V c t (y 0) (y 1) (j 1) (j 0) h0 h1

theorem XDb_blk (t : Fin cfg0.N) (y : S512x1536.Idx) (j : S6144x1536.Idx) (h0 : (j 0).val = t.val * 512 + (y 0).val)
    (h1 : (j 1).val = (y 1).val) : XDb (iblk0 V c 0 t) y = XD (V c main_v0) j :=
  deq_blk V c t (y 0) ⟨(y 1).val, _⟩ ⟨(j 1).val, _⟩ (j 0) h0 h1

theorem XTb_blk (t : Fin cfg0.N) (y : S512x128.Idx) (j : S6144x128.Idx) (h0 : (j 0).val = t.val * 512 + (y 0).val) :
    XTb (iblk0 V c 0 t) y = XT (V c main_v0) j :=
  scale_blk V c t (y 0) 12 12 (j 0) h0 rfl

theorem arr0_1 : (dat0 V c).arrAt 1 cfg0.N = XC (V c main_v0) := by
  refine (dat0 V c).arrAt_eq_of_covers 1 _ (by decide +kernel) fun t hf y => ?_
  blk_simp
  rw [after0_1, out0_1_at]
  have e := (idx0 t).2.1
  exact XCb_blk V c t y _ (by blk_simp [e]) (by blk_simp [e]; try omega)

theorem arr0_2 : (dat0 V c).arrAt 2 cfg0.N = XS (V c main_v0) := by
  refine (dat0 V c).arrAt_eq_of_covers 2 _ (by decide +kernel) fun t hf y => ?_
  blk_simp
  rw [after0_2, out0_2_at]
  have e := (idx0 t).2.2.1
  exact XSb_blk V c t y _ (by blk_simp [e]) (by blk_simp [e]; try omega)

theorem arr0_3 : (dat0 V c).arrAt 3 cfg0.N = XD (V c main_v0) := by
  refine (dat0 V c).arrAt_eq_of_covers 3 _ (by decide +kernel) fun t hf y => ?_
  blk_simp
  rw [after0_3, out0_3_at]
  have e := (idx0 t).2.2.2.1
  exact XDb_blk V c t y _ (by blk_simp [e]) (by blk_simp [e]; try omega)

theorem arr0_4 : (dat0 V c).arrAt 4 cfg0.N = XT (V c main_v0) := by
  refine (dat0 V c).arrAt_eq_of_covers 4 _ (by decide +kernel) fun t hf y => ?_
  blk_simp
  rw [after0_4, out0_4_at]
  have e := (idx0 t).2.2.2.2
  exact XTb_blk V c t y _ (by blk_simp [e])

end Cert.KernelIdeal.Gen
-- ==== Proof.Value.W.lean ====
/- What the second kernel call leaves in each block, as lists of stored pieces over the values loaded. -/
module

public import proofs.«01_k».proof.Proof.Value.Quant
public import proofs.«01_k».proof.Proof.KernelIdeal.Outs

@[expose] public section

noncomputable section

namespace Cert.KernelIdeal.Gen

open Idealize.ShloMosaic Idealize.ShloMosaic.TcCoe Cert.Quant

variable {F : FTy → Type} [FloatOps F]

/-- The codes of 128 rows of the weights. -/
def wcodes (v : Vec F S128x512 .bf16) : FVec F S128x512 .fp8e4m3 := fun i => Quant.code (v i) (broadcastTo S128x512 (k1_pay2 v) broadcasts_S1x512_S128x512 i)
/-- Their scales, one per column. -/
def wscale (v : Vec F S128x512 .bf16) : FVec F S1x512 .f32 := fun i => Quant.scale (k1_pay2 v i)
/-- Their dequantised values. -/
def wdeq0 (v : Vec F S128x512 .bf16) : FVec F S128x512 .bf16 := fun i => Quant.deq (v i) (broadcastTo S128x512 (k1_pay2 v) broadcasts_S1x512_S128x512 i)
def wdeq (v : Vec F S128x512 .bf16) : FVec F S128x512 .bf16 := shapeCast S128x512 (wdeq0 v) shapeCasts_S128x512_S128x512

/-- The pieces of the codes of a panel. -/
def WC (x : Vec F S1664x512 .bf16) : List (View.Piece (Elt F) S1664x512 .fp8e4m3) := [⟨Rect.unit ![1536, 0] S128x512.size inb_S1664x512_S128x512_1536_0, wcodes (View.ld x (Rect.unit ![1536, 0] S128x512.size inb_S1664x512_S128x512_1536_0))⟩,
    ⟨Rect.unit ![1408, 0] S128x512.size inb_S1664x512_S128x512_1408_0, wcodes (View.ld x (Rect.unit ![1408, 0] S128x512.size inb_S1664x512_S128x512_1408_0))⟩,
    ⟨Rect.unit ![1280, 0] S128x512.size inb_S1664x512_S128x512_1280_0, wcodes (View.ld x (Rect.unit ![1280, 0] S128x512.size inb_S1664x512_S128x512_1280_0))⟩,
    ⟨Rect.unit ![1152, 0] S128x512.size inb_S1664x512_S128x512_1152_0, wcodes (View.ld x (Rect.unit ![1152, 0] S128x512.size inb_S1664x512_S128x512_1152_0))⟩,
    ⟨Rect.unit ![1024, 0] S128x512.size inb_S1664x512_S128x512_1024_0, wcodes (View.ld x (Rect.unit ![1024, 0] S128x512.size inb_S1664x512_S128x512_1024_0))⟩,
    ⟨Rect.unit ![896, 0] S128x512.size inb_S1664x512_S128x512_896_0, wcodes (View.ld x (Rect.unit ![896, 0] S128x512.size inb_S1664x512_S128x512_896_0))⟩,
    ⟨Rect.unit ![768, 0] S128x512.size inb_S1664x512_S128x512_768_0, wcodes (View.ld x (Rect.unit ![768, 0] S128x512.size inb_S1664x512_S128x512_768_0))⟩,
    ⟨Rect.unit ![640, 0] S128x512.size inb_S1664x512_S128x512_640_0, wcodes (View.ld x (Rect.unit ![640, 0] S128x512.size inb_S1664x512_S128x512_640_0))⟩,
    ⟨Rect.unit ![512, 0] S128x512.size inb_S1664x512_S128x512_512_0, wcodes (View.ld x (Rect.unit ![512, 0] S128x512.size inb_S1664x512_S128x512_512_0))⟩,
    ⟨Rect.unit ![384, 0] S128x512.size inb_S1664x512_S128x512_384_0, wcodes (View.ld x (Rect.unit ![384, 0] S128x512.size inb_S1664x512_S128x512_384_0))⟩,
    ⟨Rect.unit ![256, 0] S128x512.size inb_S1664x512_S128x512_256_0, wcodes (View.ld x (Rect.unit ![256, 0] S128x512.size inb_S1664x512_S128x512_256_0))⟩,
    ⟨Rect.unit ![128, 0] S128x512.size inb_S1664x512_S128x512_128_0, wcodes (View.ld x (Rect.unit ![128, 0] S128x512.size inb_S1664x512_S128x512_128_0))⟩,
    ⟨Rect.unit ![0, 0] S128x512.size inb_S1664x512_S128x512_0_0, wcodes (View.ld x (Rect.unit ![0, 0] S128x512.size inb_S1664x512_S128x512_0_0))⟩]

/-- The pieces of the dequantised values of a panel's first twelve groups. -/
def WD (x : Vec F S1664x512 .bf16) : List (View.Piece (Elt F) S1536x512 .bf16) := [⟨Rect.unit ![1408, 0] S128x512.size inb_S1536x512_S128x512_1408_0, wdeq (View.ld x (Rect.unit ![1408, 0] S128x512.size inb_S1664x512_S128x512_1408_0))⟩,
    ⟨Rect.unit ![1280, 0] S128x512.size inb_S1536x512_S128x512_1280_0, wdeq (View.ld x (Rect.unit ![1280, 0] S128x512.size inb_S1664x512_S128x512_1280_0))⟩,
    ⟨Rect.unit ![1152, 0] S128x512.size inb_S1536x512_S128x512_1152_0, wdeq (View.ld x (Rect.unit ![1152, 0] S128x512.size inb_S1664x512_S128x512_1152_0))⟩,
    ⟨Rect.unit ![1024, 0] S128x512.size inb_S1536x512_S128x512_1024_0, wdeq (View.ld x (Rect.unit ![1024, 0] S128x512.size inb_S1664x512_S128x512_1024_0))⟩,
    ⟨Rect.unit ![896, 0] S128x512.size inb_S1536x512_S128x512_896_0, wdeq (View.ld x (Rect.unit ![896, 0] S128x512.size inb_S1664x512_S128x512_896_0))⟩,
    ⟨Rect.unit ![768, 0] S128x512.size inb_S1536x512_S128x512_768_0, wdeq (View.ld x (Rect.unit ![768, 0] S128x512.size inb_S1664x512_S128x512_768_0))⟩,
    ⟨Rect.unit ![640, 0] S128x512.size inb_S1536x512_S128x512_640_0, wdeq (View.ld x (Rect.unit ![640, 0] S128x512.size inb_S1664x512_S128x512_640_0))⟩,
    ⟨Rect.unit ![512, 0] S128x512.size inb_S1536x512_S128x512_512_0, wdeq (View.ld x (Rect.unit ![512, 0] S128x512.size inb_S1664x512_S128x512_512_0))⟩,
    ⟨Rect.unit ![384, 0] S128x512.size inb_S1536x512_S128x512_384_0, wdeq (View.ld x (Rect.unit ![384, 0] S128x512.size inb_S1664x512_S128x512_384_0))⟩,
    ⟨Rect.unit ![256, 0] S128x512.size inb_S1536x512_S128x512_256_0, wdeq (View.ld x (Rect.unit ![256, 0] S128x512.size inb_S1664x512_S128x512_256_0))⟩,
    ⟨Rect.unit ![128, 0] S128x512.size inb_S1536x512_S128x512_128_0, wdeq (View.ld x (Rect.unit ![128, 0] S128x512.size inb_S1664x512_S128x512_128_0))⟩,
    ⟨Rect.unit ![0, 0] S128x512.size inb_S1536x512_S128x512_0_0, wdeq (View.ld x (Rect.unit ![0, 0] S128x512.size inb_S1664x512_S128x512_0_0))⟩]

/-- The pieces of the scales of a panel. -/
def WS (x : Vec F S1664x512 .bf16) : List (View.Piece (Elt F) S13x512 .f32) := [⟨Rect.unit ![12, 0] S1x512.size inb_S13x512_S1x512_12_0, wscale (View.ld x (Rect.unit ![1536, 0] S128x512.size inb_S1664x512_S128x512_1536_0))⟩,
    ⟨Rect.unit ![11, 0] S1x512.size inb_S13x512_S1x512_11_0, wscale (View.ld x (Rect.unit ![1408, 0] S128x512.size inb_S1664x512_S128x512_1408_0))⟩,
    ⟨Rect.unit ![10, 0] S1x512.size inb_S13x512_S1x512_10_0, wscale (View.ld x (Rect.unit ![1280, 0] S128x512.size inb_S1664x512_S128x512_1280_0))⟩,
    ⟨Rect.unit ![9, 0] S1x512.size inb_S13x512_S1x512_9_0, wscale (View.ld x (Rect.unit ![1152, 0] S128x512.size inb_S1664x512_S128x512_1152_0))⟩,
    ⟨Rect.unit ![8, 0] S1x512.size inb_S13x512_S1x512_8_0, wscale (View.ld x (Rect.unit ![1024, 0] S128x512.size inb_S1664x512_S128x512_1024_0))⟩,
    ⟨Rect.unit ![7, 0] S1x512.size inb_S13x512_S1x512_7_0, wscale (View.ld x (Rect.unit ![896, 0] S128x512.size inb_S1664x512_S128x512_896_0))⟩,
    ⟨Rect.unit ![6, 0] S1x512.size inb_S13x512_S1x512_6_0, wscale (View.ld x (Rect.unit ![768, 0] S128x512.size inb_S1664x512_S128x512_768_0))⟩,
    ⟨Rect.unit ![5, 0] S1x512.size inb_S13x512_S1x512_5_0, wscale (View.ld x (Rect.unit ![640, 0] S128x512.size inb_S1664x512_S128x512_640_0))⟩,
    ⟨Rect.unit ![4, 0] S1x512.size inb_S13x512_S1x512_4_0, wscale (View.ld x (Rect.unit ![512, 0] S128x512.size inb_S1664x512_S128x512_512_0))⟩,
    ⟨Rect.unit ![3, 0] S1x512.size inb_S13x512_S1x512_3_0, wscale (View.ld x (Rect.unit ![384, 0] S128x512.size inb_S1664x512_S128x512_384_0))⟩,
    ⟨Rect.unit ![2, 0] S1x512.size inb_S13x512_S1x512_2_0, wscale (View.ld x (Rect.unit ![256, 0] S128x512.size inb_S1664x512_S128x512_256_0))⟩,
    ⟨Rect.unit ![1, 0] S1x512.size inb_S13x512_S1x512_1_0, wscale (View.ld x (Rect.unit ![128, 0] S128x512.size inb_S1664x512_S128x512_128_0))⟩,
    ⟨Rect.unit ![0, 0] S1x512.size inb_S13x512_S1x512_0_0, wscale (View.ld x (Rect.unit ![0, 0] S128x512.size inb_S1664x512_S128x512_0_0))⟩]

/-- The piece of the last group's scale. -/
def WT (x : Vec F S1664x512 .bf16) : List (View.Piece (Elt F) S1x512 .f32) :=
  [⟨Rect.unit ![0, 0] S1x512.size inb_S1x512_S1x512_0_0, shapeCast S1x512 (wscale (View.ld x (Rect.unit ![1536, 0] S128x512.size inb_S1664x512_S128x512_1536_0))) shapeCasts_S1x512_S1x512⟩]

/-- 256 rows of the product: the first twelve groups dequantised, the last group's codes times both scales. -/
def yrow (a : Vec F S256x1536 .bf16) (b : Vec F S1536x512 .bf16) (p : Vec F S256x128 .fp8e4m3) (q : Vec F S128x512 .fp8e4m3) (s : Vec F S256x128 .f32) (z : Vec F S1x512 .f32) :
    FVec F S256x512 .bf16 := k1_pay105 (k1_pay100 q) a b p s z

/-- The pieces of a block of the product. -/
def WY (x0 : Vec F S1536x1536 .bf16) (x1 : Vec F S1536x128 .fp8e4m3) (x2 : Vec F S1536x128 .f32) (wd : Vec F S1536x512 .bf16) (wt : Vec F S128x512 .fp8e4m3) (ws : Vec F S1x512 .f32) :
    List (View.Piece (Elt F) S1536x512 .bf16) := [⟨Rect.unit ![1280, 0] S256x512.size inb_S1536x512_S256x512_1280_0, yrow (View.ld x0 (Rect.unit ![1280, 0] S256x1536.size inb_S1536x1536_S256x1536_1280_0)) wd (View.ld x1 (Rect.unit ![1280, 0] S256x128.size inb_S1536x128_S256x128_1280_0)) wt
      (View.ld x2 (Rect.unit ![1280, 0] S256x128.size inb_S1536x128_S256x128_1280_0)) ws⟩,
    ⟨Rect.unit ![1024, 0] S256x512.size inb_S1536x512_S256x512_1024_0, yrow (View.ld x0 (Rect.unit ![1024, 0] S256x1536.size inb_S1536x1536_S256x1536_1024_0)) wd (View.ld x1 (Rect.unit ![1024, 0] S256x128.size inb_S1536x128_S256x128_1024_0)) wt
      (View.ld x2 (Rect.unit ![1024, 0] S256x128.size inb_S1536x128_S256x128_1024_0)) ws⟩,
    ⟨Rect.unit ![768, 0] S256x512.size inb_S1536x512_S256x512_768_0, yrow (View.ld x0 (Rect.unit ![768, 0] S256x1536.size inb_S1536x1536_S256x1536_768_0)) wd (View.ld x1 (Rect.unit ![768, 0] S256x128.size inb_S1536x128_S256x128_768_0)) wt
      (View.ld x2 (Rect.unit ![768, 0] S256x128.size inb_S1536x128_S256x128_768_0)) ws⟩,
    ⟨Rect.unit ![512, 0] S256x512.size inb_S1536x512_S256x512_512_0, yrow (View.ld x0 (Rect.unit ![512, 0] S256x1536.size inb_S1536x1536_S256x1536_512_0)) wd (View.ld x1 (Rect.unit ![512, 0] S256x128.size inb_S1536x128_S256x128_512_0)) wt
      (View.ld x2 (Rect.unit ![512, 0] S256x128.size inb_S1536x128_S256x128_512_0)) ws⟩,
    ⟨Rect.unit ![256, 0] S256x512.size inb_S1536x512_S256x512_256_0, yrow (View.ld x0 (Rect.unit ![256, 0] S256x1536.size inb_S1536x1536_S256x1536_256_0)) wd (View.ld x1 (Rect.unit ![256, 0] S256x128.size inb_S1536x128_S256x128_256_0)) wt
      (View.ld x2 (Rect.unit ![256, 0] S256x128.size inb_S1536x128_S256x128_256_0)) ws⟩,
    ⟨Rect.unit ![0, 0] S256x512.size inb_S1536x512_S256x512_0_0, yrow (View.ld x0 (Rect.unit ![0, 0] S256x1536.size inb_S1536x1536_S256x1536_0_0)) wd (View.ld x1 (Rect.unit ![0, 0] S256x128.size inb_S1536x128_S256x128_0_0)) wt
      (View.ld x2 (Rect.unit ![0, 0] S256x128.size inb_S1536x128_S256x128_0_0)) ws⟩]

variable (c : Dev nD) (i : grid1.Coords) (arg2 : Memref sig .tc .vmem S1536x1536 .bf16) (harg2 : arg2.IsWhole) (arg3 : Memref sig .tc .vmem S1536x128 .fp8e4m3) (harg3 : arg3.IsWhole) (arg4 : Memref sig .tc .vmem S1536x128 .f32) (harg4 : arg4.IsWhole) (arg5 : Memref sig .tc .vmem S1664x512 .bf16) (harg5 : arg5.IsWhole) (arg6 : Memref sig .tc .vmem S1536x512 .bf16) (harg6 : arg6.IsWhole) (arg7 : Memref sig .tc .vmem S1664x512 .fp8e4m3) (harg7 : arg7.IsWhole) (arg8 : Memref sig .tc .vmem S13x512 .f32) (harg8 : arg8.IsWhole) (arg9 : Memref sig .tc .vmem S1536x512 .bf16) (harg9 : arg9.IsWhole) (arg10 : Memref sig .tc .vmem S1x512 .f32) (harg10 : arg10.IsWhole)
  (x0 : Vec F S1536x1536 .bf16) (x1 : Vec F S1536x128 .fp8e4m3) (x2 : Vec F S1536x128 .f32) (x3 : Vec F S1664x512 .bf16)

section A
variable (hc0 : cond1_0 i)

theorem out1_A_5_eq : out1_A_5 c i arg2 harg2 arg3 harg3 arg4 harg4 arg5 harg5 arg6 harg6 arg7 harg7 arg8 harg8 arg9 harg9 arg10 harg10 hc0 x0 x1 x2 x3 = View.canon (WC x3) := by
  unfold out1_A_5
  rw [View.read_writes_junk_eq_canon]
  have h : (kernelRun1_A c i arg2 harg2 arg3 harg3 arg4 harg4 arg5 harg5 arg6 harg6 arg7 harg7 arg8 harg8 arg9 harg9 arg10 harg10 hc0 x0 x1 x2 x3).2.1 = WC (View.read (Elt F) arg5.view (harg5.unread x3)) := rfl
  rw [h, harg5.read_unread]

theorem out1_A_6_eq : out1_A_6 c i arg2 harg2 arg3 harg3 arg4 harg4 arg5 harg5 arg6 harg6 arg7 harg7 arg8 harg8 arg9 harg9 arg10 harg10 hc0 x0 x1 x2 x3 = View.canon (WS x3) := by
  unfold out1_A_6
  rw [View.read_writes_junk_eq_canon]
  have h : (kernelRun1_A c i arg2 harg2 arg3 harg3 arg4 harg4 arg5 harg5 arg6 harg6 arg7 harg7 arg8 harg8 arg9 harg9 arg10 harg10 hc0 x0 x1 x2 x3).2.2.1 = WS (View.read (Elt F) arg5.view (harg5.unread x3)) := rfl
  rw [h, harg5.read_unread]

theorem sout1_A_0_eq : sout1_A_0 c i arg2 harg2 arg3 harg3 arg4 harg4 arg5 harg5 arg6 harg6 arg7 harg7 arg8 harg8 arg9 harg9 arg10 harg10 hc0 x0 x1 x2 x3 = View.canon (WD x3) := by
  unfold sout1_A_0
  rw [View.read_writes_junk_eq_canon]
  have h : (kernelRun1_A c i arg2 harg2 arg3 harg3 arg4 harg4 arg5 harg5 arg6 harg6 arg7 harg7 arg8 harg8 arg9 harg9 arg10 harg10 hc0 x0 x1 x2 x3).2.2.2.1 = WD (View.read (Elt F) arg5.view (harg5.unread x3)) := rfl
  rw [h, harg5.read_unread]

theorem sout1_A_1_eq : sout1_A_1 c i arg2 harg2 arg3 harg3 arg4 harg4 arg5 harg5 arg6 harg6 arg7 harg7 arg8 harg8 arg9 harg9 arg10 harg10 hc0 x0 x1 x2 x3 = View.canon (WT x3) := by
  unfold sout1_A_1
  rw [View.read_writes_junk_eq_canon]
  have h : (kernelRun1_A c i arg2 harg2 arg3 harg3 arg4 harg4 arg5 harg5 arg6 harg6 arg7 harg7 arg8 harg8 arg9 harg9 arg10 harg10 hc0 x0 x1 x2 x3).2.2.2.2.1 = WT (View.read (Elt F) arg5.view (harg5.unread x3)) := rfl
  rw [h, harg5.read_unread]

theorem out1_A_4_eq : out1_A_4 c i arg2 harg2 arg3 harg3 arg4 harg4 arg5 harg5 arg6 harg6 arg7 harg7 arg8 harg8 arg9 harg9 arg10 harg10 hc0 x0 x1 x2 x3 = View.canon (WY x0 x1 x2
    (View.ld (View.canon (WD x3)) (Rect.unit ![0, 0] S1536x512.size inb_S1536x512_S1536x512_0_0))
    (View.ld (View.canon (WC x3)) (Rect.unit ![1536, 0] S128x512.size inb_S1664x512_S128x512_1536_0))
    (View.ld (View.canon (WT x3)) (Rect.unit ![0, 0] S1x512.size inb_S1x512_S1x512_0_0))) := by
  unfold out1_A_4
  rw [View.read_writes_junk_eq_canon]
  have h : (kernelRun1_A c i arg2 harg2 arg3 harg3 arg4 harg4 arg5 harg5 arg6 harg6 arg7 harg7 arg8 harg8 arg9 harg9 arg10 harg10 hc0 x0 x1 x2 x3).1 = WY (View.read (Elt F) arg2.view (harg2.unread x0)) (View.read (Elt F) arg3.view (harg3.unread x1)) (View.read (Elt F) arg4.view (harg4.unread x2))
    (View.ld (View.read (Elt F) arg9.view (arg9.view.writes (Elt F) arg9.view.junk (WD (View.read (Elt F) arg5.view (harg5.unread x3))))) (Rect.unit ![0, 0] S1536x512.size inb_S1536x512_S1536x512_0_0))
    (View.ld (View.read (Elt F) arg7.view (arg7.view.writes (Elt F) arg7.view.junk (WC (View.read (Elt F) arg5.view (harg5.unread x3))))) (Rect.unit ![1536, 0] S128x512.size inb_S1664x512_S128x512_1536_0))
    (View.ld (View.read (Elt F) arg10.view (arg10.view.writes (Elt F) arg10.view.junk (WT (View.read (Elt F) arg5.view (harg5.unread x3))))) (Rect.unit ![0, 0] S1x512.size inb_S1x512_S1x512_0_0)) := rfl
  rw [h, harg5.read_unread, harg2.read_unread, harg3.read_unread, harg4.read_unread, View.read_writes_junk_eq_canon, View.read_writes_junk_eq_canon, View.read_writes_junk_eq_canon]

end A

section B
variable (hc0 : ¬cond1_0 i) (xo5 : Vec F S1664x512 .fp8e4m3) (xo6 : Vec F S13x512 .f32) (xs0 : Vec F S1536x512 .bf16) (xs1 : Vec F S1x512 .f32)

theorem out1_B_4_eq : out1_B_4 c i arg2 harg2 arg3 harg3 arg4 harg4 arg5 harg5 arg6 harg6 arg7 harg7 arg8 harg8 arg9 harg9 arg10 harg10 hc0 x0 x1 x2 x3 xo5 xo6 xs0 xs1 = View.canon (WY x0 x1 x2
    (View.ld xs0 (Rect.unit ![0, 0] S1536x512.size inb_S1536x512_S1536x512_0_0))
    (View.ld xo5 (Rect.unit ![1536, 0] S128x512.size inb_S1664x512_S128x512_1536_0))
    (View.ld xs1 (Rect.unit ![0, 0] S1x512.size inb_S1x512_S1x512_0_0))) := by
  unfold out1_B_4
  rw [View.read_writes_junk_eq_canon]
  have h : (kernelRun1_B c i arg2 harg2 arg3 harg3 arg4 harg4 arg5 harg5 arg6 harg6 arg7 harg7 arg8 harg8 arg9 harg9 arg10 harg10 hc0 x0 x1 x2 x3 xo5 xo6 xs0 xs1).1 = WY (View.read (Elt F) arg2.view (harg2.unread x0)) (View.read (Elt F) arg3.view (harg3.unread x1)) (View.read (Elt F) arg4.view (harg4.unread x2))
    (View.ld (View.read (Elt F) arg9.view (harg9.unread xs0)) (Rect.unit ![0, 0] S1536x512.size inb_S1536x512_S1536x512_0_0))
    (View.ld (View.read (Elt F) arg7.view (harg7.unread xo5)) (Rect.unit ![1536, 0] S128x512.size inb_S1664x512_S128x512_1536_0))
    (View.ld (View.read (Elt F) arg10.view (harg10.unread xs1)) (Rect.unit ![0, 0] S1x512.size inb_S1x512_S1x512_0_0)) := rfl
  rw [h, harg2.read_unread, harg3.read_unread, harg4.read_unread, harg9.read_unread, harg7.read_unread, harg10.read_unread]

end B

end Cert.KernelIdeal.Gen
-- ==== Proof.Value.WI.lean ====
/- What the second kernel call leaves in each block over the extended reals. -/
module

public import proofs.«01_k».proof.Proof.Value.X
public import proofs.«01_k».proof.Proof.Value.W

@[expose] public section

set_option maxRecDepth 16384

noncomputable section

namespace Cert.KernelIdeal.Gen

open Idealize.ShloMosaic Idealize.ShloMosaic.Tactic Cert.Quant

/-- The greatest of 128 values, taken by halving three times and then over the sixteen left. -/
theorem halves (b : EReal) (f : Fin 128 → EReal) :
    Finset.univ.fold max b (fun x : Fin 16 =>
      max (max (max (f ⟨x.val, by omega⟩) (f ⟨64 + x.val, by omega⟩)) (max (f ⟨32 + x.val, by omega⟩) (f ⟨64 + (32 + x.val), by omega⟩)))
        (max (max (f ⟨16 + x.val, by omega⟩) (f ⟨64 + (16 + x.val), by omega⟩)) (max (f ⟨32 + (16 + x.val), by omega⟩) (f ⟨64 + (32 + (16 + x.val)), by omega⟩))))
      = Finset.univ.fold max b f := by
  refine eq_of_forall_ge_iff fun c => ?_
  rw [Finset.fold_max_le, Finset.fold_max_le]
  simp only [Finset.mem_univ, true_implies, max_le_iff]
  refine and_congr_right fun _ => ⟨fun h l => ?_, fun h x => ⟨⟨⟨h _, h _⟩, h _, h _⟩, ⟨h _, h _⟩, h _, h _⟩⟩
  obtain ⟨⟨⟨h0, h4⟩, h2, h6⟩, ⟨h1, h5⟩, h3, h7⟩ := h ⟨l.val % 16, Nat.mod_lt _ (by decide)⟩
  have hl := l.isLt
  have hq : l.val / 16 < 8 := by omega
  have hs : l.val = 16 * (l.val / 16) + l.val % 16 := by omega
  generalize l.val / 16 = q at hq hs
  have key : ∀ (k : ℕ) (hk : k < 128), l.val = k → f ⟨k, hk⟩ ≤ c → f l ≤ c := by
    intro k hk e h; subst e; exact h
  interval_cases q
  · exact key _ _ (by dsimp only; omega) h0
  · exact key _ _ (by dsimp only; omega) h1
  · exact key _ _ (by dsimp only; omega) h2
  · exact key _ _ (by dsimp only; omega) h3
  · exact key _ _ (by dsimp only; omega) h4
  · exact key _ _ (by dsimp only; omega) h5
  · exact key _ _ (by dsimp only; omega) h6
  · exact key _ _ (by dsimp only; omega) h7

theorem wc_at (v : Vec Ideal S128x512 .bf16) (z : Fin 1) (n : Fin 512) :
    k1_pay2 v (ix2 z n) = gmax (fun l => v (ix2 l n)) * kappa := by
  pointwise [k1_pay2]
  rw [show kappa = Ideal.ofBits FTy.f32 991054117#32 from rfl]
  congr 1
  exact halves (Ideal.ofBits FTy.f32 4286578688#32) (fun l => max (v (ix2 l n)) (-(v (ix2 l n))))

theorem bc_at {α : Type} (y : S1x512.Idx → α) (r : Fin 128) (n : Fin 512) :
    broadcastTo S128x512 y broadcasts_S1x512_S128x512 (ix2 r n) = y (ix2 (0 : Fin 1) n) := by
  pointwise

section Panel

variable (x : Vec Ideal S1664x512 .bf16)

/-- The scaled greatest magnitude of group `g` of column `n`. -/
def cw (g : Fin 13) (n : Fin 512) : EReal := gmax (fun l => x (ix2 (gk g l) n)) * kappa

theorem wemb_in (o : ℕ) (inb : ∀ a, (![o, 0] : Fin 2 → ℕ) a + S128x512.size a ≤ S1664x512.size a) (g : Fin 13) (ho : o = g.val * 128)
    (l : Fin 128) (n : Fin 512) : (Rect.unit (s := S1664x512) ![o, 0] S128x512.size inb).emb (ix2 l n) = ix2 (gk g l) n := by
  subst ho
  funext a; apply Fin.ext
  match a with
  | ⟨0, _⟩ => show g.val * 128 + 1 * l.val = g.val * 128 + l.val; omega
  | ⟨1, _⟩ => show 0 + 1 * n.val = n.val; omega

theorem wld_at (o : ℕ) (inb : ∀ a, (![o, 0] : Fin 2 → ℕ) a + S128x512.size a ≤ S1664x512.size a) (g : Fin 13) (ho : o = g.val * 128)
    (l : Fin 128) (n : Fin 512) : View.ld x (Rect.unit (s := S1664x512) ![o, 0] S128x512.size inb) (ix2 l n) = x (ix2 (gk g l) n) := by
  show x ((Rect.unit (s := S1664x512) ![o, 0] S128x512.size inb).emb (ix2 l n)) = _
  rw [wemb_in o inb g ho]

theorem wc_ld (o : ℕ) (inb : ∀ a, (![o, 0] : Fin 2 → ℕ) a + S128x512.size a ≤ S1664x512.size a) (g : Fin 13) (ho : o = g.val * 128)
    (z : Fin 1) (n : Fin 512) : k1_pay2 (View.ld x (Rect.unit (s := S1664x512) ![o, 0] S128x512.size inb)) (ix2 z n) = cw x g n := by
  rw [wc_at]
  simp only [wld_at x o inb g ho]
  rfl

/-- The codes of a panel. -/
def WCb : Vec Ideal S1664x512 .fp8e4m3 := fun i => code (F := Ideal) (x (ix2 (i 0) (i 1))) (cw x (gof (i 0)) (i 1))

theorem WCb_at (k : Fin 1664) (n : Fin 512) : WCb x (ix2 k n) = code (F := Ideal) (x (ix2 k n)) (cw x (gof k) n) := rfl

theorem wcodes_at (v : Vec Ideal S128x512 .bf16) (l : Fin 128) (n : Fin 512) :
    wcodes v (ix2 l n) = code (F := Ideal) (v (ix2 l n)) (k1_pay2 v (ix2 (0 : Fin 1) n)) := by
  rw [← bc_at (k1_pay2 v) l n]
  rfl

theorem wcodes_piece (o : ℕ) (inb : ∀ a, (![o, 0] : Fin 2 → ℕ) a + S128x512.size a ≤ S1664x512.size a) (g : Fin 13) (ho : o = g.val * 128)
    (i : S128x512.Idx) : wcodes (View.ld x (Rect.unit (s := S1664x512) ![o, 0] S128x512.size inb)) i
      = WCb x ((Rect.unit (s := S1664x512) ![o, 0] S128x512.size inb).emb i) := by
  obtain ⟨l, n, rfl⟩ : ∃ (l : Fin 128) (n : Fin 512), i = ix2 l n := ⟨i 0, i 1, eq_ix2 i⟩
  rw [wemb_in o inb g ho]
  rw [wcodes_at, wc_ld x o inb g ho, wld_at x o inb g ho, WCb_at, gof_gk]

theorem wc_cover (y : S1664x512.Idx) : ∃ pc ∈ WC x, y ∈ pc.1.set := View.cover_of_tiledL (WC x) S128x512.size (by sl_kernel_rfl) y

theorem canon_WC : View.canon (WC x) = WCb x := by
  funext y
  refine View.canon_apply_of_pieces (WCb x) _ ?_ y (wc_cover x y)
  intro pc hpc
  unfold WC at hpc
  rcases List.mem_cons.mp hpc with rfl | hpc
  · exact wcodes_piece x 1536 inb_S1664x512_S128x512_1536_0 12 rfl
  rcases List.mem_cons.mp hpc with rfl | hpc
  · exact wcodes_piece x 1408 inb_S1664x512_S128x512_1408_0 11 rfl
  rcases List.mem_cons.mp hpc with rfl | hpc
  · exact wcodes_piece x 1280 inb_S1664x512_S128x512_1280_0 10 rfl
  rcases List.mem_cons.mp hpc with rfl | hpc
  · exact wcodes_piece x 1152 inb_S1664x512_S128x512_1152_0 9 rfl
  rcases List.mem_cons.mp hpc with rfl | hpc
  · exact wcodes_piece x 1024 inb_S1664x512_S128x512_1024_0 8 rfl
  rcases List.mem_cons.mp hpc with rfl | hpc
  · exact wcodes_piece x 896 inb_S1664x512_S128x512_896_0 7 rfl
  rcases List.mem_cons.mp hpc with rfl | hpc
  · exact wcodes_piece x 768 inb_S1664x512_S128x512_768_0 6 rfl
  rcases List.mem_cons.mp hpc with rfl | hpc
  · exact wcodes_piece x 640 inb_S1664x512_S128x512_640_0 5 rfl
  rcases List.mem_cons.mp hpc with rfl | hpc
  · exact wcodes_piece x 512 inb_S1664x512_S128x512_512_0 4 rfl
  rcases List.mem_cons.mp hpc with rfl | hpc
  · exact wcodes_piece x 384 inb_S1664x512_S128x512_384_0 3 rfl
  rcases List.mem_cons.mp hpc with rfl | hpc
  · exact wcodes_piece x 256 inb_S1664x512_S128x512_256_0 2 rfl
  rcases List.mem_cons.mp hpc with rfl | hpc
  · exact wcodes_piece x 128 inb_S1664x512_S128x512_128_0 1 rfl
  rcases List.mem_cons.mp hpc with rfl | hpc
  · exact wcodes_piece x 0 inb_S1664x512_S128x512_0_0 0 rfl
  nomatch hpc

/-- The dequantised values of a panel's first twelve groups. -/
def WDb : Vec Ideal S1536x512 .bf16 := fun i =>
  deq (F := Ideal) (x (ix2 ⟨(i 0).val, by have h : (i 0).val < 1536 := (i 0).isLt; omega⟩ (i 1)))
    (cw x (gof ⟨(i 0).val, by have h : (i 0).val < 1536 := (i 0).isLt; omega⟩) (i 1))

theorem same_at {α : Type} (y : S128x512.Idx → α) (l : Fin 128) (n : Fin 512) :
    shapeCast S128x512 y shapeCasts_S128x512_S128x512 (ix2 l n) = y (ix2 l n) := by
  pointwise

theorem WDb_at (k : Fin 1664) (n : Fin 512) (k' : Fin 1536) (h : k'.val = k.val) : WDb x (ix2 k' n) = deq (F := Ideal) (x (ix2 k n)) (cw x (gof k) n) := by
  obtain ⟨k, hk⟩ := k
  obtain ⟨k', hk'⟩ := k'
  dsimp only at h
  subst h
  rfl

theorem wdeq_at (v : Vec Ideal S128x512 .bf16) (l : Fin 128) (n : Fin 512) :
    wdeq v (ix2 l n) = deq (F := Ideal) (v (ix2 l n)) (k1_pay2 v (ix2 (0 : Fin 1) n)) := by
  rw [← bc_at (k1_pay2 v) l n]
  unfold wdeq
  rw [same_at]
  rfl

theorem wdeq_piece (o : ℕ) (inb : ∀ a, (![o, 0] : Fin 2 → ℕ) a + S128x512.size a ≤ S1664x512.size a)
    (inb' : ∀ a, (![o, 0] : Fin 2 → ℕ) a + S128x512.size a ≤ S1536x512.size a) (g : Fin 13) (hg : g.val < 12) (ho : o = g.val * 128)
    (i : S128x512.Idx) : wdeq (View.ld x (Rect.unit (s := S1664x512) ![o, 0] S128x512.size inb)) i
      = WDb x ((Rect.unit (s := S1536x512) ![o, 0] S128x512.size inb').emb i) := by
  obtain ⟨l, n, rfl⟩ : ∃ (l : Fin 128) (n : Fin 512), i = ix2 l n := ⟨i 0, i 1, eq_ix2 i⟩
  have he : (Rect.unit (s := S1536x512) ![o, 0] S128x512.size inb').emb (ix2 l n)
      = ix2 (⟨g.val * 128 + l.val, by have := l.isLt; omega⟩ : Fin 1536) n := by
    subst ho
    funext a; apply Fin.ext
    match a with
    | ⟨0, _⟩ => show g.val * 128 + 1 * l.val = g.val * 128 + l.val; omega
    | ⟨1, _⟩ => show 0 + 1 * n.val = n.val; omega
  rw [he]
  rw [wdeq_at, wc_ld x o inb g ho, wld_at x o inb g ho, WDb_at x (gk g l) n _ rfl, gof_gk]

theorem wd_cover (y : S1536x512.Idx) : ∃ pc ∈ WD x, y ∈ pc.1.set := View.cover_of_tiledL (WD x) S128x512.size (by sl_kernel_rfl) y

theorem canon_WD : View.canon (WD x) = WDb x := by
  funext y
  refine View.canon_apply_of_pieces (WDb x) _ ?_ y (wd_cover x y)
  intro pc hpc
  unfold WD at hpc
  rcases List.mem_cons.mp hpc with rfl | hpc
  · exact wdeq_piece x 1408 inb_S1664x512_S128x512_1408_0 inb_S1536x512_S128x512_1408_0 11 (by decide) rfl
  rcases List.mem_cons.mp hpc with rfl | hpc
  · exact wdeq_piece x 1280 inb_S1664x512_S128x512_1280_0 inb_S1536x512_S128x512_1280_0 10 (by decide) rfl
  rcases List.mem_cons.mp hpc with rfl | hpc
  · exact wdeq_piece x 1152 inb_S1664x512_S128x512_1152_0 inb_S1536x512_S128x512_1152_0 9 (by decide) rfl
  rcases List.mem_cons.mp hpc with rfl | hpc
  · exact wdeq_piece x 1024 inb_S1664x512_S128x512_1024_0 inb_S1536x512_S128x512_1024_0 8 (by decide) rfl
  rcases List.mem_cons.mp hpc with rfl | hpc
  · exact wdeq_piece x 896 inb_S1664x512_S128x512_896_0 inb_S1536x512_S128x512_896_0 7 (by decide) rfl
  rcases List.mem_cons.mp hpc with rfl | hpc
  · exact wdeq_piece x 768 inb_S1664x512_S128x512_768_0 inb_S1536x512_S128x512_768_0 6 (by decide) rfl
  rcases List.mem_cons.mp hpc with rfl | hpc
  · exact wdeq_piece x 640 inb_S1664x512_S128x512_640_0 inb_S1536x512_S128x512_640_0 5 (by decide) rfl
  rcases List.mem_cons.mp hpc with rfl | hpc
  · exact wdeq_piece x 512 inb_S1664x512_S128x512_512_0 inb_S1536x512_S128x512_512_0 4 (by decide) rfl
  rcases List.mem_cons.mp hpc with rfl | hpc
  · exact wdeq_piece x 384 inb_S1664x512_S128x512_384_0 inb_S1536x512_S128x512_384_0 3 (by decide) rfl
  rcases List.mem_cons.mp hpc with rfl | hpc
  · exact wdeq_piece x 256 inb_S1664x512_S128x512_256_0 inb_S1536x512_S128x512_256_0 2 (by decide) rfl
  rcases List.mem_cons.mp hpc with rfl | hpc
  · exact wdeq_piece x 128 inb_S1664x512_S128x512_128_0 inb_S1536x512_S128x512_128_0 1 (by decide) rfl
  rcases List.mem_cons.mp hpc with rfl | hpc
  · exact wdeq_piece x 0 inb_S1664x512_S128x512_0_0 inb_S1536x512_S128x512_0_0 0 (by decide) rfl
  nomatch hpc

/-- The scales of a panel. -/
def WSb : Vec Ideal S13x512 .f32 := fun i => scale (F := Ideal) (cw x (i 0) (i 1))

theorem wscale_piece (o : ℕ) (inb : ∀ a, (![o, 0] : Fin 2 → ℕ) a + S128x512.size a ≤ S1664x512.size a) (g : Fin 13) (k : ℕ)
    (inb' : ∀ a, (![k, 0] : Fin 2 → ℕ) a + S1x512.size a ≤ S13x512.size a) (hk : k = g.val) (ho : o = g.val * 128)
    (i : S1x512.Idx) : wscale (View.ld x (Rect.unit (s := S1664x512) ![o, 0] S128x512.size inb)) i
      = WSb x ((Rect.unit (s := S13x512) ![k, 0] S1x512.size inb').emb i) := by
  obtain ⟨z, n, rfl⟩ : ∃ (z : Fin 1) (n : Fin 512), i = ix2 z n := ⟨i 0, i 1, eq_ix2 i⟩
  have he : (Rect.unit (s := S13x512) ![k, 0] S1x512.size inb').emb (ix2 z n) = ix2 g n := by
    subst hk
    funext a; apply Fin.ext
    match a with
    | ⟨0, _⟩ => show g.val + 1 * z.val = g.val; have := z.isLt; omega
    | ⟨1, _⟩ => show 0 + 1 * n.val = n.val; omega
  rw [he]
  show scale (F := Ideal) (k1_pay2 _ (ix2 z n)) = scale (F := Ideal) (cw x g n)
  rw [wc_ld x o inb g ho]

theorem ws_cover (y : S13x512.Idx) : ∃ pc ∈ WS x, y ∈ pc.1.set := View.cover_of_tiledL (WS x) S1x512.size (by sl_kernel_rfl) y

theorem canon_WS : View.canon (WS x) = WSb x := by
  funext y
  refine View.canon_apply_of_pieces (WSb x) _ ?_ y (ws_cover x y)
  intro pc hpc
  unfold WS at hpc
  rcases List.mem_cons.mp hpc with rfl | hpc
  · exact wscale_piece x 1536 inb_S1664x512_S128x512_1536_0 12 12 inb_S13x512_S1x512_12_0 rfl rfl
  rcases List.mem_cons.mp hpc with rfl | hpc
  · exact wscale_piece x 1408 inb_S1664x512_S128x512_1408_0 11 11 inb_S13x512_S1x512_11_0 rfl rfl
  rcases List.mem_cons.mp hpc with rfl | hpc
  · exact wscale_piece x 1280 inb_S1664x512_S128x512_1280_0 10 10 inb_S13x512_S1x512_10_0 rfl rfl
  rcases List.mem_cons.mp hpc with rfl | hpc
  · exact wscale_piece x 1152 inb_S1664x512_S128x512_1152_0 9 9 inb_S13x512_S1x512_9_0 rfl rfl
  rcases List.mem_cons.mp hpc with rfl | hpc
  · exact wscale_piece x 1024 inb_S1664x512_S128x512_1024_0 8 8 inb_S13x512_S1x512_8_0 rfl rfl
  rcases List.mem_cons.mp hpc with rfl | hpc
  · exact wscale_piece x 896 inb_S1664x512_S128x512_896_0 7 7 inb_S13x512_S1x512_7_0 rfl rfl
  rcases List.mem_cons.mp hpc with rfl | hpc
  · exact wscale_piece x 768 inb_S1664x512_S128x512_768_0 6 6 inb_S13x512_S1x512_6_0 rfl rfl
  rcases List.mem_cons.mp hpc with rfl | hpc
  · exact wscale_piece x 640 inb_S1664x512_S128x512_640_0 5 5 inb_S13x512_S1x512_5_0 rfl rfl
  rcases List.mem_cons.mp hpc with rfl | hpc
  · exact wscale_piece x 512 inb_S1664x512_S128x512_512_0 4 4 inb_S13x512_S1x512_4_0 rfl rfl
  rcases List.mem_cons.mp hpc with rfl | hpc
  · exact wscale_piece x 384 inb_S1664x512_S128x512_384_0 3 3 inb_S13x512_S1x512_3_0 rfl rfl
  rcases List.mem_cons.mp hpc with rfl | hpc
  · exact wscale_piece x 256 inb_S1664x512_S128x512_256_0 2 2 inb_S13x512_S1x512_2_0 rfl rfl
  rcases List.mem_cons.mp hpc with rfl | hpc
  · exact wscale_piece x 128 inb_S1664x512_S128x512_128_0 1 1 inb_S13x512_S1x512_1_0 rfl rfl
  rcases List.mem_cons.mp hpc with rfl | hpc
  · exact wscale_piece x 0 inb_S1664x512_S128x512_0_0 0 0 inb_S13x512_S1x512_0_0 rfl rfl
  nomatch hpc

/-- The last group's scale. -/
def WTb : Vec Ideal S1x512 .f32 := fun i => scale (F := Ideal) (cw x 12 (i 1))

theorem same1_at {α : Type} (y : S1x512.Idx → α) (z : Fin 1) (n : Fin 512) :
    shapeCast S1x512 y shapeCasts_S1x512_S1x512 (ix2 z n) = y (ix2 z n) := by
  pointwise

theorem canon_WT : View.canon (WT x) = WTb x := by
  unfold WT
  rw [View.canon_unit_zero hz]
  funext i
  obtain ⟨z, n, rfl⟩ : ∃ (z : Fin 1) (n : Fin 512), i = ix2 z n := ⟨i 0, i 1, eq_ix2 i⟩
  rw [same1_at]
  show scale (F := Ideal) (k1_pay2 _ (ix2 z n)) = scale (F := Ideal) (cw x 12 n)
  rw [wc_ld x 1536 _ 12 rfl]

end Panel

section Product

variable (x0 : Vec Ideal S1536x1536 .bf16) (x1 : Vec Ideal S1536x128 .fp8e4m3) (x2 : Vec Ideal S1536x128 .f32)
  (wd : Vec Ideal S1536x512 .bf16) (wt : Vec Ideal S128x512 .fp8e4m3) (ws : Vec Ideal S1x512 .f32)

theorem prod_at (a : FVec Ideal S256x1536 .bf16) (b : FVec Ideal S1536x512 .bf16) (r : Fin 256) (n : Fin 512) :
    (matmul dot_S256x1536_S1536x512_S256x512_1_0_0_1_n_n none a b (constant S256x512 .f32 0x00000000#32) : FVec Ideal S256x512 .f32) (ix2 r n)
      = ∑ k : Fin 1536, a (ix2 r k) * b (ix2 k n) := by
  pointwise

theorem prod_at' (a : FVec Ideal S256x128 .fp8e4m3) (b : FVec Ideal S128x512 .fp8e4m3) (r : Fin 256) (n : Fin 512) :
    (matmul dot_S256x128_S128x512_S256x512_1_0_0_1_n_n none a b (constant S256x512 .f32 0x00000000#32) : FVec Ideal S256x512 .f32) (ix2 r n)
      = ∑ k : Fin 128, a (ix2 r k) * b (ix2 k n) := by
  pointwise

theorem cat_at {α : Type} (y : S256x128.Idx → α) (r : Fin 256) (n : Fin 512) :
    concatenate S256x512 1 [⟨S256x128, y⟩, ⟨S256x128, y⟩, ⟨S256x128, y⟩, ⟨S256x128, y⟩] concatenates_S256x128_S256x128_S256x128_S256x128_S256x512_d1 (ix2 r n)
      = y (ix2 r (⟨n.val % 128, Nat.mod_lt _ (by decide)⟩ : Fin 128)) := by
  refine concatenate_replicate_apply (t := S256x512) (s₁ := S256x128) 1 4 y _ rfl (ix2 r n) (ix2 r (⟨n.val % 128, Nat.mod_lt _ (by decide)⟩ : Fin 128)) rfl ?_
  intro b hb
  match b with
  | ⟨0, _⟩ => rfl
  | ⟨1, _⟩ => exact absurd rfl hb

theorem id_at {α : Type} (y : S256x1536.Idx → α) (r : Fin 256) (k : Fin 1536) :
    shapeCast S256x1536 y shapeCasts_S256x1536_S256x1536 (ix2 r k) = y (ix2 r k) := by
  pointwise
theorem id_at' {α : Type} (y : S256x128.Idx → α) (r : Fin 256) (k : Fin 128) :
    shapeCast S256x128 y shapeCasts_S256x128_S256x128 (ix2 r k) = y (ix2 r k) := by
  pointwise
theorem bc_at' {α : Type} (y : S1x512.Idx → α) (r : Fin 256) (n : Fin 512) :
    broadcastTo S256x512 y broadcasts_S1x512_S256x512 (ix2 r n) = y (ix2 (0 : Fin 1) n) := by
  pointwise

theorem yrow_at (a : Vec Ideal S256x1536 .bf16) (p : Vec Ideal S256x128 .fp8e4m3) (s : Vec Ideal S256x128 .f32) (r : Fin 256) (n : Fin 512) :
    yrow a wd p wt s ws (ix2 r n) = (∑ k : Fin 1536, a (ix2 r k) * wd (ix2 k n))
      + (∑ l : Fin 128, p (ix2 r l) * wt (ix2 l n)) * (s (ix2 r (⟨n.val % 128, Nat.mod_lt _ (by decide)⟩ : Fin 128)) * ws (ix2 (0 : Fin 1) n)) := by
  show (matmul (F := Ideal) dot_S256x1536_S1536x512_S256x512_1_0_0_1_n_n none (shapeCast S256x1536 a shapeCasts_S256x1536_S256x1536) wd (constant S256x512 .f32 0x00000000#32)) (ix2 r n)
    + (matmul (F := Ideal) dot_S256x128_S128x512_S256x512_1_0_0_1_n_n none (shapeCast S256x128 p shapeCasts_S256x128_S256x128) (k1_pay100 wt) (constant S256x512 .f32 0x00000000#32)) (ix2 r n)
      * (concatenate S256x512 1 [⟨S256x128, shapeCast S256x128 s shapeCasts_S256x128_S256x128⟩, ⟨S256x128, shapeCast S256x128 s shapeCasts_S256x128_S256x128⟩, ⟨S256x128, shapeCast S256x128 s shapeCasts_S256x128_S256x128⟩, ⟨S256x128, shapeCast S256x128 s shapeCasts_S256x128_S256x128⟩] concatenates_S256x128_S256x128_S256x128_S256x128_S256x512_d1 (ix2 r n)
        * broadcastTo S256x512 ws broadcasts_S1x512_S256x512 (ix2 r n)) = _
  rw [prod_at, prod_at', cat_at, bc_at']
  simp only [id_at, id_at', k1_pay100, same_at]

/-- A block of the product. -/
def YB : Vec Ideal S1536x512 .bf16 := fun i => (∑ k : Fin 1536, x0 (ix2 (i 0) k) * wd (ix2 k (i 1)))
      + (∑ l : Fin 128, x1 (ix2 (i 0) l) * wt (ix2 l (i 1))) * (x2 (ix2 (i 0) (⟨(i 1).val % 128, Nat.mod_lt _ (by decide)⟩ : Fin 128)) * ws (ix2 (0 : Fin 1) (i 1)))

theorem y_piece (o : ℕ) (inb : ∀ a, (![o, 0] : Fin 2 → ℕ) a + S256x512.size a ≤ S1536x512.size a)
    (inb0 : ∀ a, (![o, 0] : Fin 2 → ℕ) a + S256x1536.size a ≤ S1536x1536.size a)
    (inb1 : ∀ a, (![o, 0] : Fin 2 → ℕ) a + S256x128.size a ≤ S1536x128.size a) (ho : o + 256 ≤ 1536) (i : S256x512.Idx) :
    yrow (View.ld x0 (Rect.unit ![o, 0] S256x1536.size inb0)) wd (View.ld x1 (Rect.unit ![o, 0] S256x128.size inb1)) wt
      (View.ld x2 (Rect.unit ![o, 0] S256x128.size inb1)) ws i = YB x0 x1 x2 wd wt ws ((Rect.unit (s := S1536x512) ![o, 0] S256x512.size inb).emb i) := by
  obtain ⟨r, n, rfl⟩ : ∃ (r : Fin 256) (n : Fin 512), i = ix2 r n := ⟨i 0, i 1, eq_ix2 i⟩
  have hr := r.isLt
  have he : (Rect.unit (s := S1536x512) ![o, 0] S256x512.size inb).emb (ix2 r n) = ix2 (⟨o + r.val, by omega⟩ : Fin 1536) n := by
    funext a; apply Fin.ext
    match a with
    | ⟨0, _⟩ => show o + 1 * r.val = o + r.val; omega
    | ⟨1, _⟩ => show 0 + 1 * n.val = n.val; omega
  have h0 : ∀ k : Fin 1536, View.ld x0 (Rect.unit ![o, 0] S256x1536.size inb0) (ix2 r k) = x0 (ix2 (⟨o + r.val, by omega⟩ : Fin 1536) k) := by
    intro k
    show x0 ((Rect.unit (s := S1536x1536) ![o, 0] S256x1536.size inb0).emb (ix2 r k)) = _
    congr 1
    funext a; apply Fin.ext
    match a with
    | ⟨0, _⟩ => show o + 1 * r.val = o + r.val; omega
    | ⟨1, _⟩ => show 0 + 1 * k.val = k.val; omega
  have hk : ∀ k : Fin 128, (Rect.unit (s := S1536x128) ![o, 0] S256x128.size inb1).emb (ix2 r k) = ix2 (⟨o + r.val, by omega⟩ : Fin 1536) k := by
    intro k
    funext a; apply Fin.ext
    match a with
    | ⟨0, _⟩ => show o + 1 * r.val = o + r.val; omega
    | ⟨1, _⟩ => show 0 + 1 * k.val = k.val; omega
  have h1 : ∀ k : Fin 128, View.ld x1 (Rect.unit ![o, 0] S256x128.size inb1) (ix2 r k) = x1 (ix2 (⟨o + r.val, by omega⟩ : Fin 1536) k) := by
    intro k; exact congrArg x1 (hk k)
  have h2 : ∀ k : Fin 128, View.ld x2 (Rect.unit ![o, 0] S256x128.size inb1) (ix2 r k) = x2 (ix2 (⟨o + r.val, by omega⟩ : Fin 1536) k) := by
    intro k; exact congrArg x2 (hk k)
  rw [he, yrow_at, h2]
  simp only [h0, h1]
  rfl

theorem y_cover (y : S1536x512.Idx) : ∃ pc ∈ WY x0 x1 x2 wd wt ws, y ∈ pc.1.set := View.cover_of_tiledL (WY x0 x1 x2 wd wt ws) S256x512.size (by sl_kernel_rfl) y

theorem canon_WY : View.canon (WY x0 x1 x2 wd wt ws) = YB x0 x1 x2 wd wt ws := by
  funext y
  refine View.canon_apply_of_pieces (YB x0 x1 x2 wd wt ws) _ ?_ y (y_cover x0 x1 x2 wd wt ws y)
  intro pc hpc
  unfold WY at hpc
  rcases List.mem_cons.mp hpc with rfl | hpc
  · exact y_piece x0 x1 x2 wd wt ws 1280 inb_S1536x512_S256x512_1280_0 inb_S1536x1536_S256x1536_1280_0 inb_S1536x128_S256x128_1280_0 (by decide)
  rcases List.mem_cons.mp hpc with rfl | hpc
  · exact y_piece x0 x1 x2 wd wt ws 1024 inb_S1536x512_S256x512_1024_0 inb_S1536x1536_S256x1536_1024_0 inb_S1536x128_S256x128_1024_0 (by decide)
  rcases List.mem_cons.mp hpc with rfl | hpc
  · exact y_piece x0 x1 x2 wd wt ws 768 inb_S1536x512_S256x512_768_0 inb_S1536x1536_S256x1536_768_0 inb_S1536x128_S256x128_768_0 (by decide)
  rcases List.mem_cons.mp hpc with rfl | hpc
  · exact y_piece x0 x1 x2 wd wt ws 512 inb_S1536x512_S256x512_512_0 inb_S1536x1536_S256x1536_512_0 inb_S1536x128_S256x128_512_0 (by decide)
  rcases List.mem_cons.mp hpc with rfl | hpc
  · exact y_piece x0 x1 x2 wd wt ws 256 inb_S1536x512_S256x512_256_0 inb_S1536x1536_S256x1536_256_0 inb_S1536x128_S256x128_256_0 (by decide)
  rcases List.mem_cons.mp hpc with rfl | hpc
  · exact y_piece x0 x1 x2 wd wt ws 0 inb_S1536x512_S256x512_0_0 inb_S1536x1536_S256x1536_0_0 inb_S1536x128_S256x128_0_0 (by decide)
  nomatch hpc

end Product

end Cert.KernelIdeal.Gen
-- ==== Proof.Value.A1.lean ====
/- What the second kernel call holds at each of its grid points, and the arrays it leaves. The grid runs over 54 panels of the
weights with 4 row blocks each; a panel is quantised at its first row block and its codes, scales and dequantised copy are
reused at the other three. -/
module

public import proofs.«01_k».proof.Proof.Value.A0
public import proofs.«01_k».proof.Proof.Value.WI
public import proofs.«01_k».proof.Proof.KernelIdeal.Outs

@[expose] public section

noncomputable section

namespace Cert.KernelIdeal.Gen

open Idealize.ShloMosaic Idealize.ShloMosaic.TcCoe Idealize.ShloMosaic.Pipeline Cert.Quant

section Arrays

variable (v : S1664x27648.Idx → EReal)

/-- The scaled greatest magnitude of group `g` of column `n` of the weights. -/
def cv (g : Fin 13) (n : Fin 27648) : EReal := gmax (fun l => v (ix2 (gk g l) n)) * kappa

def VC : S1664x27648.Idx → EReal := fun i => code (F := Ideal) (v (ix2 (i 0) (i 1))) (cv v (gof (i 0)) (i 1))
def VS : S13x27648.Idx → EReal := fun i => scale (F := Ideal) (cv v (i 0) (i 1))

/-- The product: the first twelve groups over dequantised factors, the last over codes scaled afterwards. -/
def YA (D : S6144x1536.Idx → EReal) (C : S6144x1664.Idx → EReal) (T : S6144x128.Idx → EReal) : S6144x27648.Idx → EReal := fun i =>
  (∑ k : Fin 1536, D (ix2 (i 0) k) * deq (F := Ideal) (v (ix2 ⟨k.val, by omega⟩ (i 1))) (cv v (gof ⟨k.val, by omega⟩) (i 1)))
    + (∑ l : Fin 128, C (ix2 (i 0) (gk 12 l)) * code (F := Ideal) (v (ix2 (gk 12 l) (i 1))) (cv v 12 (i 1)))
      * (T (ix2 (i 0) (⟨(i 1).val % 128, Nat.mod_lt _ (by decide)⟩ : Fin 128)) * scale (F := Ideal) (cv v 12 (i 1)))

end Arrays

theorem idx1 : ∀ t : Fin cfg1.N, win1_0.index t = ![t.val % 4, 0] ∧ win1_1.index t = ![t.val % 4, 12] ∧ win1_2.index t = ![t.val % 4, 0]
    ∧ win1_3.index t = ![0, t.val / 4] ∧ win1_4.index t = ![t.val % 4, t.val / 4] ∧ win1_5.index t = ![0, t.val / 4]
    ∧ win1_6.index t = ![0, t.val / 4] := by decide +kernel

variable (V : (c : Dev nD) → (b : Ref sig .tc) → Buf (Elt Ideal) ((c : Thread nD τ).loc b)) (c : Dev nD)

theorem iblk1_0_at (t : Fin cfg1.N) (r : Fin 1536) (k : Fin 1536) (R : Fin 6144) (hR : R.val = t.val % 4 * 1536 + r.val) :
    iblk1 V c 0 t (ix2 r k) = V c main_v1_2 (ix2 R k) := by
  have e := idx1 t
  blk_ext [iblk1, e.1]

theorem iblk1_1_at (t : Fin cfg1.N) (r : Fin 1536) (l : Fin 128) (R : Fin 6144) (hR : R.val = t.val % 4 * 1536 + r.val) :
    iblk1 V c 1 t (ix2 r l) = V c main_v1_0 (ix2 R (gk 12 l)) := by
  have e := idx1 t
  have e2 : (gk 12 l).val = 12 * 128 + l.val := rfl
  blk_ext [iblk1, e.2.1]

theorem iblk1_2_at (t : Fin cfg1.N) (r : Fin 1536) (l : Fin 128) (R : Fin 6144) (hR : R.val = t.val % 4 * 1536 + r.val) :
    iblk1 V c 2 t (ix2 r l) = V c main_v1_3 (ix2 R l) := by
  have e := idx1 t
  blk_ext [iblk1, e.2.2.1]

theorem iblk1_3_at (t : Fin cfg1.N) (k : Fin 1664) (n : Fin 512) (N : Fin 27648) (hN : N.val = t.val / 4 * 512 + n.val) :
    iblk1 V c 3 t (ix2 k n) = V c main_arg1 (ix2 k N) := by
  have e := idx1 t
  blk_ext [iblk1, e.2.2.2.1]

theorem panel_eq (t t' : Fin cfg1.N) (h : t.val / 4 = t'.val / 4) : iblk1 V c 3 t = iblk1 V c 3 t' := by
  funext y
  have ht : t.val < 216 := t.isLt
  obtain ⟨k, n, rfl⟩ : ∃ (k : Fin 1664) (n : Fin 512), y = ix2 k n := ⟨y 0, y 1, eq_ix2 y⟩
  have hb : t.val / 4 * 512 + n.val < 27648 := by omega
  exact (iblk1_3_at V c t k n ⟨_, hb⟩ rfl).trans (iblk1_3_at V c t' k n ⟨_, hb⟩ (by rw [← h])).symm

/-- What the scratch and the two quantised outputs hold at every point: the panel's own codes, scales and dequantised copy. -/
theorem state : ∀ (n : ℕ) (hn : n < cfg1.N), (outsAt1 V c n hn).2
    = (WCb (iblk1 V c 3 ⟨n, hn⟩), WSb (iblk1 V c 3 ⟨n, hn⟩), WDb (iblk1 V c 3 ⟨n, hn⟩), WTb (iblk1 V c 3 ⟨n, hn⟩)) := by
  intro n
  induction n with
  | zero =>
    intro hn
    have e := congrArg Prod.snd (outsAt1_A V c ⟨0, hn⟩ rfl)
    refine e.trans ?_
    dsimp only
    rw [out1_A_5_eq, out1_A_6_eq, sout1_A_0_eq, sout1_A_1_eq, canon_WC, canon_WD, canon_WS, canon_WT]
  | succ n ih =>
    intro hn
    by_cases h0 : (n + 1) % 4 = 0
    · have e := congrArg Prod.snd (outsAt1_A V c ⟨n + 1, hn⟩ h0)
      refine e.trans ?_
      dsimp only
      rw [out1_A_5_eq, out1_A_6_eq, sout1_A_0_eq, sout1_A_1_eq, canon_WC, canon_WD, canon_WS, canon_WT]
    · have e := congrArg Prod.snd (outsAt1_B V c ⟨n + 1, hn⟩ h0)
      have ih' := ih (Nat.lt_of_succ_lt hn)
      rw [panel_eq V c ⟨n + 1, hn⟩ ⟨n, Nat.lt_of_succ_lt hn⟩ (by dsimp only; omega)]
      exact e.trans ih'

/-- The product block of a point. -/
theorem y_out (t : Fin cfg1.N) : (outsAt1 V c t.val t.isLt).1
    = YB (iblk1 V c 0 t) (iblk1 V c 1 t) (iblk1 V c 2 t) (WDb (iblk1 V c 3 t))
        (View.ld (WCb (iblk1 V c 3 t)) (Rect.unit (s := S1664x512) ![1536, 0] S128x512.size inb_S1664x512_S128x512_1536_0)) (WTb (iblk1 V c 3 t)) := by
  by_cases h0 : t.val % 4 = 0
  · refine (congrArg Prod.fst (outsAt1_A V c t h0)).trans ?_
    dsimp only
    rw [out1_A_4_eq, canon_WC, canon_WD, canon_WT, canon_WY, View.ld_unit_zero hz, View.ld_unit_zero hz]
  · refine (congrArg Prod.fst (outsAt1_B V c t h0)).trans ?_
    dsimp only
    have hn : t.val - 1 < cfg1.N := Nat.lt_of_le_of_lt (Nat.sub_le _ _) t.isLt
    have s := state V c (t.val - 1) hn
    have p : iblk1 V c 3 ⟨t.val - 1, hn⟩ = iblk1 V c 3 t := panel_eq V c _ _ (by dsimp only; omega)
    rw [p] at s
    rw [out1_B_4_eq, s, canon_WY, View.ld_unit_zero hz, View.ld_unit_zero hz]

theorem cw_blk (t : Fin cfg1.N) (g : Fin 13) (n : Fin 512) (N : Fin 27648) (hN : N.val = t.val / 4 * 512 + n.val) :
    cw (iblk1 V c 3 t) g n = cv (V c main_arg1) g N := by
  unfold cw cv
  congr 2
  funext l
  exact iblk1_3_at V c t _ n N hN

theorem wcode_blk (t : Fin cfg1.N) (k K : Fin 1664) (n : Fin 512) (N : Fin 27648) (hK : K.val = k.val) (hN : N.val = t.val / 4 * 512 + n.val) :
    code (F := Ideal) (iblk1 V c 3 t (ix2 k n)) (cw (iblk1 V c 3 t) (gof k) n)
      = code (F := Ideal) (V c main_arg1 (ix2 K N)) (cv (V c main_arg1) (gof K) N) := by
  obtain rfl : K = k := Fin.ext hK
  rw [cw_blk V c t _ n N hN, iblk1_3_at V c t K n N hN]

theorem wdeq_blk (t : Fin cfg1.N) (k K : Fin 1664) (n : Fin 512) (N : Fin 27648) (hK : K.val = k.val) (hN : N.val = t.val / 4 * 512 + n.val) :
    deq (F := Ideal) (iblk1 V c 3 t (ix2 k n)) (cw (iblk1 V c 3 t) (gof k) n)
      = deq (F := Ideal) (V c main_arg1 (ix2 K N)) (cv (V c main_arg1) (gof K) N) := by
  obtain rfl : K = k := Fin.ext hK
  rw [cw_blk V c t _ n N hN, iblk1_3_at V c t K n N hN]

theorem wscale_blk (t : Fin cfg1.N) (g G : Fin 13) (n : Fin 512) (N : Fin 27648) (hG : G.val = g.val) (hN : N.val = t.val / 4 * 512 + n.val) :
    scale (F := Ideal) (cw (iblk1 V c 3 t) g n) = scale (F := Ideal) (cv (V c main_arg1) G N) := by
  obtain rfl : G = g := Fin.ext hG
  rw [cw_blk V c t _ n N hN]

theorem YB_blk (t : Fin cfg1.N) (r : Fin 1536) (n : Fin 512) (R : Fin 6144) (N : Fin 27648) (hR : R.val = t.val % 4 * 1536 + r.val)
    (hN : N.val = t.val / 4 * 512 + n.val) :
    YB (iblk1 V c 0 t) (iblk1 V c 1 t) (iblk1 V c 2 t) (WDb (iblk1 V c 3 t))
        (View.ld (WCb (iblk1 V c 3 t)) (Rect.unit (s := S1664x512) ![1536, 0] S128x512.size inb_S1664x512_S128x512_1536_0)) (WTb (iblk1 V c 3 t)) (ix2 r n)
      = YA (V c main_arg1) (V c main_v1_2) (V c main_v1_0) (V c main_v1_3) (ix2 R N) := by
  have hm : n.val % 128 = N.val % 128 := by omega
  refine congrArg₂ (· + ·) (Finset.sum_congr rfl fun k _ => congrArg₂ (· * ·) ?_ ?_)
    (congrArg₂ (· * ·) (Finset.sum_congr rfl fun l _ => congrArg₂ (· * ·) ?_ ?_) (congrArg₂ (· * ·) ?_ ?_))
  · exact iblk1_0_at V c t r k R hR
  · exact (WDb_at (iblk1 V c 3 t) ⟨k.val, by omega⟩ n k rfl).trans (wdeq_blk V c t _ _ n N rfl hN)
  · exact iblk1_1_at V c t r l R hR
  · refine (wld_at (WCb (iblk1 V c 3 t)) 1536 _ 12 rfl l n).trans ?_
    have e := wcode_blk V c t (gk 12 l) (gk 12 l) n N rfl hN
    rw [gof_gk] at e
    rw [WCb_at, gof_gk]
    exact e
  · refine (iblk1_2_at V c t r _ R hR).trans ?_
    exact congrArg (fun q : Fin 128 => V c main_v1_3 (ix2 R q)) (Fin.ext hm)
  · exact wscale_blk V c t 12 12 n N rfl hN

theorem arr1_4 : (dat1 V c).arrAt 4 cfg1.N = YA (V c main_arg1) (V c main_v1_2) (V c main_v1_0) (V c main_v1_3) := by
  refine (dat1 V c).arrAt_eq_of_covers 4 _ (by decide +kernel) fun t hf y => ?_
  blk_simp
  rw [after1_4, y_out]
  have e := (idx1 t).2.2.2.2.1
  have h0 : (((win1_4.blk t).view.emb y) 0).val = t.val % 4 * 1536 + (y 0).val := by blk_simp [e]
  have h1 : (((win1_4.blk t).view.emb y) 1).val = t.val / 4 * 512 + (y 1).val := by blk_simp [e]
  exact (congrArg _ (eq_ix2 (n0 := 1536) (n1 := 512) y)).trans ((YB_blk V c t (y 0) (y 1) _ _ h0 h1).trans (congrArg _ (eq_ix2 (n0 := 6144) (n1 := 27648) _).symm))

theorem arr1_5 : (dat1 V c).arrAt 5 cfg1.N = VC (V c main_arg1) := by
  refine (dat1 V c).arrAt_eq_of_covers 5 _ (by decide +kernel) fun t hf y => ?_
  blk_simp
  rw [after1_5, state]
  have e := (idx1 t).2.2.2.2.2.1
  have h0 : (((win1_5.blk t).view.emb y) 0).val = (y 0).val := by blk_simp [e]; try omega
  have h1 : (((win1_5.blk t).view.emb y) 1).val = t.val / 4 * 512 + (y 1).val := by blk_simp [e]
  exact wcode_blk V c t (y 0) _ (y 1) _ h0 h1

theorem arr1_6 : (dat1 V c).arrAt 6 cfg1.N = VS (V c main_arg1) := by
  refine (dat1 V c).arrAt_eq_of_covers 6 _ (by decide +kernel) fun t hf y => ?_
  blk_simp
  rw [after1_6, state]
  have e := (idx1 t).2.2.2.2.2.2
  have h0 : (((win1_6.blk t).view.emb y) 0).val = (y 0).val := by blk_simp [e]; try omega
  have h1 : (((win1_6.blk t).view.emb y) 1).val = t.val / 4 * 512 + (y 1).val := by blk_simp [e]
  exact wscale_blk V c t (y 0) _ (y 1) _ h0 h1

end Cert.KernelIdeal.Gen
-- ==== Proof.Value.A2.lean ====
/- The whole kernel's results: the flattening of the activations before the first call, the arrays the two calls leave, and the
reshapes after the second. -/
module

public import proofs.«01_k».proof.Proof.Value.A1
public import proofs.«01_k».proof.Proof.KernelIdeal.Run

@[expose] public section

noncomputable section

namespace Cert.KernelIdeal.Gen

open Idealize.ShloMosaic Idealize.ShloMosaic.TcCoe Idealize.ShloMosaic.Pipeline Idealize.SL.Sem Cert.Quant

section Host

variable {F : FTy → Type} [FloatOps F] (V : Valuation τ sig (Elt F))

theorem host0_v0 : StableHlo.after (hostOps0 (F := F)) V (Proc.devRef .tc main_v0)
    = shapeCast S6144x1664 (V (Proc.devRef .tc main_arg0)) shapeCasts_S2x3072x1664_S6144x1664 := by
  unfold hostOps0
  after_results
  rfl

theorem host2_v3 : StableHlo.after (hostOps2 (F := F)) V (Proc.devRef .tc main_v3)
    = shapeCast S2x3072x27648 (V (Proc.devRef .tc main_v2_0)) shapeCasts_S6144x27648_S2x3072x27648 := by
  unfold hostOps2
  after_results
  rfl

theorem host2_v4 : StableHlo.after (hostOps2 (F := F)) V (Proc.devRef .tc main_v4)
    = shapeCast S2x3072x1664 (V (Proc.devRef .tc main_v1_0)) shapeCasts_S6144x1664_S2x3072x1664 := by
  unfold hostOps2
  after_results
  rfl

theorem host2_v5 : StableHlo.after (hostOps2 (F := F)) V (Proc.devRef .tc main_v5)
    = shapeCast S2x3072x13 (V (Proc.devRef .tc main_v1_1)) shapeCasts_S6144x13_S2x3072x13 := by
  unfold hostOps2
  after_results
  rfl

end Host

variable (m : (ℓ : Loc nD τ sig) → Buf (Elt Ideal) ℓ) (ρ : Dev nD → PrngReg) (c : Dev nD)

/-- The activations as 6144 rows. -/
abbrev xf (x : S2x3072x1664.Idx → EReal) : S6144x1664.Idx → EReal := shapeCast S6144x1664 x shapeCasts_S2x3072x1664_S6144x1664

theorem V1_v0 : V1 m ρ c main_v0 = xf (m ((c : Thread nD τ).loc main_arg0)) := host0_v0 (F := Ideal) (W0 m ρ c)

theorem V2_arg1 : V2 m ρ c main_arg1 = m ((c : Thread nD τ).loc main_arg1) := W2_args m ρ c main_arg1 (by decide)
theorem V2_codes : V2 m ρ c main_v1_0 = XC (xf (m ((c : Thread nD τ).loc main_arg0))) := by
  rw [← V1_v0 m ρ c]; exact (W2_arr m ρ c 1).trans (arr0_1 (V1 m ρ) c)
theorem V2_scale : V2 m ρ c main_v1_1 = XS (xf (m ((c : Thread nD τ).loc main_arg0))) := by
  rw [← V1_v0 m ρ c]; exact (W2_arr m ρ c 2).trans (arr0_2 (V1 m ρ) c)
theorem V2_deq : V2 m ρ c main_v1_2 = XD (xf (m ((c : Thread nD τ).loc main_arg0))) := by
  rw [← V1_v0 m ρ c]; exact (W2_arr m ρ c 3).trans (arr0_3 (V1 m ρ) c)
theorem V2_tail : V2 m ρ c main_v1_3 = XT (xf (m ((c : Thread nD τ).loc main_arg0))) := by
  rw [← V1_v0 m ρ c]; exact (W2_arr m ρ c 4).trans (arr0_4 (V1 m ρ) c)

/-! ## The five results, as the run leaves them -/

abbrev K0 (x : S2x3072x1664.Idx → EReal) (v : S1664x27648.Idx → EReal) : S2x3072x27648.Idx → EReal :=
  shapeCast S2x3072x27648 (YA v (XD (xf x)) (XC (xf x)) (XT (xf x))) shapeCasts_S6144x27648_S2x3072x27648
abbrev K1 (x : S2x3072x1664.Idx → EReal) : S2x3072x1664.Idx → EReal :=
  shapeCast S2x3072x1664 (XC (xf x)) shapeCasts_S6144x1664_S2x3072x1664
abbrev K2 (x : S2x3072x1664.Idx → EReal) : S2x3072x13.Idx → EReal :=
  shapeCast S2x3072x13 (XS (xf x)) shapeCasts_S6144x13_S2x3072x13

theorem W4_v3 : W4 m ρ c (Proc.devRef .tc main_v3) = K0 (m ((c : Thread nD τ).loc main_arg0)) (m ((c : Thread nD τ).loc main_arg1)) := by
  refine (host2_v3 (F := Ideal) (W3 m ρ c)).trans ?_
  have e : W3 m ρ c (Proc.devRef .tc main_v2_0) = _ := (W3_arr m ρ c 4).trans (arr1_4 (V2 m ρ) c)
  rw [V2_arg1, V2_deq, V2_codes, V2_tail] at e
  exact congrArg (fun y : S6144x27648.Idx → EReal => shapeCast S2x3072x27648 y shapeCasts_S6144x27648_S2x3072x27648) e

theorem W4_v4 : W4 m ρ c (Proc.devRef .tc main_v4) = K1 (m ((c : Thread nD τ).loc main_arg0)) := by
  refine (host2_v4 (F := Ideal) (W3 m ρ c)).trans ?_
  have e : W3 m ρ c (Proc.devRef .tc main_v1_0) = _ := (W3_of m ρ c main_v1_0 (by decide +kernel)).trans (V2_codes m ρ c)
  exact congrArg (fun y : S6144x1664.Idx → EReal => shapeCast S2x3072x1664 y shapeCasts_S6144x1664_S2x3072x1664) e

theorem W4_v5 : W4 m ρ c (Proc.devRef .tc main_v5) = K2 (m ((c : Thread nD τ).loc main_arg0)) := by
  refine (host2_v5 (F := Ideal) (W3 m ρ c)).trans ?_
  have e : W3 m ρ c (Proc.devRef .tc main_v1_1) = _ := (W3_of m ρ c main_v1_1 (by decide +kernel)).trans (V2_scale m ρ c)
  exact congrArg (fun y : S6144x13.Idx → EReal => shapeCast S2x3072x13 y shapeCasts_S6144x13_S2x3072x13) e

theorem W4_v2_1 : W4 m ρ c (Proc.devRef .tc main_v2_1) = VC (m ((c : Thread nD τ).loc main_arg1)) := by
  rw [← V2_arg1 m ρ c]
  exact (W4_of m ρ c main_v2_1 (by decide +kernel)).trans ((W3_arr m ρ c 5).trans (arr1_5 (V2 m ρ) c))

theorem W4_v2_2 : W4 m ρ c (Proc.devRef .tc main_v2_2) = VS (m ((c : Thread nD τ).loc main_arg1)) := by
  rw [← V2_arg1 m ρ c]
  exact (W4_of m ρ c main_v2_2 (by decide +kernel)).trans ((W3_arr m ρ c 6).trans (arr1_6 (V2 m ρ) c))

theorem run_value : θ_run (defs (F := Ideal)) (onTc (τ := τ) (main (F := Ideal))) ⟨m, fun _ => 0, ρ⟩ (fun r => ∀ c : Dev nD,
    r.2.mem ((c.tc : Thread nD τ).loc main_v3) = K0 (m ((c.tc : Thread nD τ).loc main_arg0)) (m ((c.tc : Thread nD τ).loc main_arg1))
    ∧ r.2.mem ((c.tc : Thread nD τ).loc main_v4) = K1 (m ((c.tc : Thread nD τ).loc main_arg0))
    ∧ r.2.mem ((c.tc : Thread nD τ).loc main_v5) = K2 (m ((c.tc : Thread nD τ).loc main_arg0))
    ∧ r.2.mem ((c.tc : Thread nD τ).loc main_v2_1) = VC (m ((c.tc : Thread nD τ).loc main_arg1))
    ∧ r.2.mem ((c.tc : Thread nD τ).loc main_v2_2) = VS (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run (defs (F := Ideal)) _ _).mono (fun r h c => ?_) (run_all m ρ)
  have u := h.1 c
  exact ⟨(u _ (mem_uc main_v3 (by decide))).trans (W4_v3 m ρ c), (u _ (mem_uc main_v4 (by decide))).trans (W4_v4 m ρ c),
    (u _ (mem_uc main_v5 (by decide))).trans (W4_v5 m ρ c), (u _ (mem_uc main_v2_1 (by decide))).trans (W4_v2_1 m ρ c),
    (u _ (mem_uc main_v2_2 (by decide))).trans (W4_v2_2 m ρ c), (u _ (mem_uc main_arg0 (by decide))).trans (W4_main_arg0 m ρ c),
    (u _ (mem_uc main_arg1 (by decide))).trans (W4_main_arg1 m ρ c)⟩

end Cert.KernelIdeal.Gen
-- ==== Proof.Value.RefRun.lean ====
/- The reference's run with every result named: its one kernel call has one grid point and whole-array windows, so each result
array ends holding the payload of the one store into it, read off the argument arrays. -/
module

public import proofs.«01_k».proof.Proof.Gen.ReferenceIdeal.Frame
public import Idealize.ShloMosaic.Lib.Pipeline.Value

@[expose] public section

noncomputable section

namespace Cert.ReferenceIdeal.Read

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S2x3072x27648.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S2x3072x1664.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S2x3072x13.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S1664x27648.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S13x27648.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_3) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_4) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_v0_3) = (dats m 0 c).arrAt 5 cfg0.N
      ∧ r.2.mem ((c : Thread nD τ).loc main_v0_4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      post5 m r h c,
      post6 m r h c,
      kept_main_arg0 m r h c,
      kept_main_arg1 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x3072x1664.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 3072 + 1 * (j 1).val = (j 1).val; omega
  | ⟨2, _⟩ => show win0_0.index t (2 : Fin 3) * 1664 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1664x27648.Idx) : ((cfg0.win 1).blk t).view.emb j = j := by
  obtain ⟨e0, e1⟩ := idx_zero1 t
  funext a; apply Fin.ext
  match a with
  | ⟨0, _⟩ => show win0_1.index t (0 : Fin 2) * 1664 + 1 * (j 0).val = (j 0).val; omega
  | ⟨1, _⟩ => show win0_1.index t (1 : Fin 2) * 27648 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x3072x27648.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 3072 + 1 * (j 1).val = (j 1).val; omega
  | ⟨2, _⟩ => show win0_2.index t (2 : Fin 3) * 27648 + 1 * (j 2).val = (j 2).val; omega

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x3072x1664.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 3072 + 1 * (j 1).val = (j 1).val; omega
  | ⟨2, _⟩ => show win0_3.index t (2 : Fin 3) * 1664 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S2x3072x13.Idx) : ((cfg0.win 4).blk t).view.emb j = j := by
  obtain ⟨e0, e1, e2⟩ := idx_zero4 t
  funext a; apply Fin.ext
  match a with
  | ⟨0, _⟩ => show win0_4.index t (0 : Fin 3) * 2 + 1 * (j 0).val = (j 0).val; omega
  | ⟨1, _⟩ => show win0_4.index t (1 : Fin 3) * 3072 + 1 * (j 1).val = (j 1).val; omega
  | ⟨2, _⟩ => show win0_4.index t (2 : Fin 3) * 13 + 1 * (j 2).val = (j 2).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1664x27648.Idx) : ((cfg0.win 5).blk t).view.emb j = j := by
  obtain ⟨e0, e1⟩ := idx_zero5 t
  funext a; apply Fin.ext
  match a with
  | ⟨0, _⟩ => show win0_5.index t (0 : Fin 2) * 1664 + 1 * (j 0).val = (j 0).val; omega
  | ⟨1, _⟩ => show win0_5.index t (1 : Fin 2) * 27648 + 1 * (j 1).val = (j 1).val; omega

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S13x27648.Idx) : ((cfg0.win 6).blk t).view.emb j = j := by
  obtain ⟨e0, e1⟩ := idx_zero6 t
  funext a; apply Fin.ext
  match a with
  | ⟨0, _⟩ => show win0_6.index t (0 : Fin 2) * 13 + 1 * (j 0).val = (j 0).val; omega
  | ⟨1, _⟩ => show win0_6.index t (1 : Fin 2) * 27648 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S2x3072x1664 .bf16) (a1 : Vec F S1664x27648 .bf16) : Vec F S2x3072x27648 .bf16 :=
  k0_pay1 (k0_pay11 (k0_pay13 a0 a1) (k0_pay14 a0 a1)) (k0_pay12 (k0_pay15 a0 a1) (k0_pay16 a0 a1))

/-- The one store through the whole rectangle leaves its payload. -/
theorem out2_eq (a0 : Vec F S2x3072x1664 .bf16) (a1 : Vec F S1664x27648 .bf16) : out0_2 (F := F) a0 a1 = G2 a0 a1 := by
  unfold out0_2
  rw [View.canon_unit_zero hz2]

/-- Cutting the point's block out of `X` and reading `X` through the block's view give the same. -/
theorem cut2_eq (t : Fin cfg0.N) (X : Vec F S2x3072x27648 .bf16) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S2x3072x27648.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S2x3072x1664 .bf16) (a1 : Vec F S1664x27648 .bf16) : Vec F S2x3072x1664 .fp8e4m3 :=
  k0_pay13 a0 a1

/-- The one store through the whole rectangle leaves its payload. -/
theorem out3_eq (a0 : Vec F S2x3072x1664 .bf16) (a1 : Vec F S1664x27648 .bf16) : out0_3 (F := F) a0 a1 = G3 a0 a1 := by
  unfold out0_3
  rw [View.canon_unit_zero hz3]

/-- Cutting the point's block out of `X` and reading `X` through the block's view give the same. -/
theorem cut3_eq (t : Fin cfg0.N) (X : Vec F S2x3072x1664 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S2x3072x1664.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S2x3072x1664 .bf16) (a1 : Vec F S1664x27648 .bf16) : Vec F S2x3072x13 .f32 :=
  k0_pay14 a0 a1

/-- The one store through the whole rectangle leaves its payload. -/
theorem out4_eq (a0 : Vec F S2x3072x1664 .bf16) (a1 : Vec F S1664x27648 .bf16) : out0_4 (F := F) a0 a1 = G4 a0 a1 := by
  unfold out0_4
  rw [View.canon_unit_zero hz4]

/-- Cutting the point's block out of `X` and reading `X` through the block's view give the same. -/
theorem cut4_eq (t : Fin cfg0.N) (X : Vec F S2x3072x13 .f32) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S2x3072x13.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ### Output window 5: the array after the run -/

/-- What the window's array ends holding: `out0_5` applied to the argument arrays in place of the input blocks (a value that the
    frame states apart, `kK_payN a…`, keeps its loads inside its own definition). -/
abbrev G5 (a0 : Vec F S2x3072x1664 .bf16) (a1 : Vec F S1664x27648 .bf16) : Vec F S1664x27648 .fp8e4m3 :=
  k0_pay9 (k0_pay15 a0 a1) (k0_pay16 a0 a1)

/-- The one store through the whole rectangle leaves its payload. -/
theorem out5_eq (a0 : Vec F S2x3072x1664 .bf16) (a1 : Vec F S1664x27648 .bf16) : out0_5 (F := F) a0 a1 = G5 a0 a1 := by
  unfold out0_5
  rw [View.canon_unit_zero hz5]

/-- Cutting the point's block out of `X` and reading `X` through the block's view give the same. -/
theorem cut5_eq (t : Fin cfg0.N) (X : Vec F S1664x27648 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1)) := by
  show (cfg0.win 5).cut (grid0.coords t) ((dats m 0 c).after 5 t) = _
  rw [after0_5, out5_eq, iblk0_eq, iblk1_eq]
  exact cut5_eq t _

/-- Every index of the array is in the point's block. -/
theorem covered5 (i : S1664x27648.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) :=
  ((dats m 0 c).arrAt_eq_of_cover 5 (G5 (V m c main_arg0) (V m c main_arg1)) (fun t _ => flushed5_eq m c t) covered5).trans (by rw [V_main_arg0, V_main_arg1])

/-! ### Output window 6: the array after the run -/

/-- What the window's array ends holding: `out0_6` applied to the argument arrays in place of the input blocks (a value that the
    frame states apart, `kK_payN a…`, keeps its loads inside its own definition). -/
abbrev G6 (a0 : Vec F S2x3072x1664 .bf16) (a1 : Vec F S1664x27648 .bf16) : Vec F S13x27648 .f32 :=
  k0_pay10 (k0_pay16 a0 a1)

/-- The one store through the whole rectangle leaves its payload. -/
theorem out6_eq (a0 : Vec F S2x3072x1664 .bf16) (a1 : Vec F S1664x27648 .bf16) : out0_6 (F := F) a0 a1 = G6 a0 a1 := by
  unfold out0_6
  rw [View.canon_unit_zero hz6]

/-- Cutting the point's block out of `X` and reading `X` through the block's view give the same. -/
theorem cut6_eq (t : Fin cfg0.N) (X : Vec F S13x27648 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1)) := by
  show (cfg0.win 6).cut (grid0.coords t) ((dats m 0 c).after 6 t) = _
  rw [after0_6, out6_eq, iblk0_eq, iblk1_eq]
  exact cut6_eq t _

/-- Every index of the array is in the point's block. -/
theorem covered6 (i : S13x27648.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) :=
  ((dats m 0 c).arrAt_eq_of_cover 6 (G6 (V m c main_arg0) (V m c main_arg1)) (fun t _ => flushed6_eq m c t) covered6).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_v0_3) = G5 (m ((c : Thread nD τ).loc main_arg0)) (m ((c : Thread nD τ).loc main_arg1))
      ∧ r.2.mem ((c : Thread nD τ).loc main_v0_4) = G6 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      (post5 m r h c).trans (final5 m c),
      (post6 m r h c).trans (final6 m c),
      kept_main_arg0 m r h c,
      kept_main_arg1 m r h c⟩)
    (run_main m ρ)

end Cert.ReferenceIdeal.Read

end
-- ==== Proof.Value.Ref.lean ====
/- The reference's results, element by element, over the extended reals. -/
module

public import proofs.«01_k».proof.Proof.Value.Math
public import proofs.«01_k».proof.Proof.Value.RefRun

@[expose] public section

noncomputable section

namespace Cert.ReferenceIdeal.Read

open Cert.ReferenceIdeal Cert.ReferenceIdeal.Gen Idealize.ShloMosaic Cert.Quant

variable (x : Vec Ideal S2x3072x1664 .bf16) (v : Vec Ideal S1664x27648 .bf16)

/-- The greatest magnitude of group `g` of row `s` of `x`, and of group `g` of column `n` of the weights. -/
def ax (b : Fin 2) (s : Fin 3072) (g : Fin 13) : EReal := gmax fun l => x (ix3 b s (gk g l))
def aw (g : Fin 13) (n : Fin 27648) : EReal := gmax fun l => v (ix2 (gk g l) n)

theorem xexp_gen {F : FTy → Type} [FloatOps F] (x : Vec F S2x3072x1664 .bf16) (i : S2x3072x13x1.Idx) : k0_pay3 x i = expOf
    (shapeCast S2x3072x13x1 (multiReduction .maximumf [3] S2x3072x13 (absf (k0_pay2 x)) 0xFF800000#32 reduces_S2x3072x13x128_S2x3072x13 (.inl rfl) rfl) shapeCasts_S2x3072x13_S2x3072x13x1 i) := rfl

/-- The reference's group maxima as it computes them. -/
def xmax : FVec Ideal S2x3072x13x1 .f32 :=
  shapeCast S2x3072x13x1 (multiReduction .maximumf [3] S2x3072x13 (absf (k0_pay2 x)) 0xFF800000#32 reduces_S2x3072x13x128_S2x3072x13 (.inl rfl) rfl) shapeCasts_S2x3072x13_S2x3072x13x1

theorem x2_at (b : Fin 2) (s : Fin 3072) (g : Fin 13) (l : Fin 128) : k0_pay2 x (ix4 b s g l) = x (ix3 b s (gk g l)) := by
  pointwise [k0_pay2]
  rfl

theorem xmax_at (b : Fin 2) (s : Fin 3072) (g : Fin 13) (z : Fin 1) : xmax x (ix4 b s g z) = ax x b s g := by
  have h : ∀ l, absf (k0_pay2 x) (ix4 b s g l) = max (x (ix3 b s (gk g l))) (-(x (ix3 b s (gk g l)))) := by
    intro l
    show max (k0_pay2 x (ix4 b s g l)) (-(k0_pay2 x (ix4 b s g l))) = _
    rw [x2_at]
  unfold ax gmax
  simp only [← h]
  unfold xmax
  generalize absf (k0_pay2 x) = y
  pointwise

theorem xexp_eq (i : S2x3072x13x1.Idx) : k0_pay3 x i = refExp (xmax x i) := by
  rw [← expOf_ideal]
  exact xexp_gen x i

theorem xexp_at (b : Fin 2) (s : Fin 3072) (g : Fin 13) (z : Fin 1) : k0_pay3 x (ix4 b s g z) = refExp (ax x b s g) := by
  rw [xexp_eq, xmax_at]

theorem gk_gof (k : Fin 1664) : gk (gof k) ⟨k.val % 128, Nat.mod_lt _ (by decide)⟩ = k := by
  apply Fin.ext; show k.val / 128 * 128 + k.val % 128 = k.val; omega

theorem xcode_gen {F : FTy → Type} [FloatOps F] (x : Vec F S2x3072x1664 .bf16) :
    k0_pay4 x = shapeCast S2x3072x1664 (fun i => codeOf (k0_pay2 x i) (broadcastTo S2x3072x13x128 (k0_pay3 x) broadcasts_S2x3072x13x1_S2x3072x13x128 i))
      shapeCasts_S2x3072x13x128_S2x3072x1664 := rfl

theorem cast4 {α : Type} (y : S2x3072x13x128.Idx → α) (b : Fin 2) (s : Fin 3072) (k : Fin 1664) :
    shapeCast S2x3072x1664 y shapeCasts_S2x3072x13x128_S2x3072x1664 (ix3 b s k) = y (ix4 b s (gof k) ⟨k.val % 128, Nat.mod_lt _ (by decide)⟩) := by
  pointwise
  rfl

theorem spread4 (y : FVec Ideal S2x3072x13x1 .f32) (b : Fin 2) (s : Fin 3072) (g : Fin 13) (l : Fin 128) :
    broadcastTo S2x3072x13x128 y broadcasts_S2x3072x13x1_S2x3072x13x128 (ix4 b s g l) = y (ix4 b s g 0) := by
  pointwise

theorem xcode_at (b : Fin 2) (s : Fin 3072) (k : Fin 1664) :
    k0_pay4 x (ix3 b s k) = refCode (x (ix3 b s k)) (ax x b s (gof k)) := by
  rw [xcode_gen, cast4, x2_at, spread4, xexp_at, gk_gof]
  rfl

theorem xscale_gen {F : FTy → Type} [FloatOps F] (x : Vec F S2x3072x1664 .bf16) :
    k0_pay5 x = shapeCast S2x3072x13 (fun i => FloatOps.exp2 (k0_pay3 x i)) shapeCasts_S2x3072x13x1_S2x3072x13 := rfl

theorem xscale_at (b : Fin 2) (s : Fin 3072) (g : Fin 13) : k0_pay5 x (ix3 b s g) = refScale (ax x b s g) := by
  have h : ∀ y : FVec Ideal S2x3072x13x1 .f32, shapeCast S2x3072x13 y shapeCasts_S2x3072x13x1_S2x3072x13 (ix3 b s g) = y (ix4 b s g 0) := by
    intro y; pointwise
  rw [xscale_gen, h, xexp_at]; rfl

theorem xdeq_gen {F : FTy → Type} [FloatOps F] (c : FVec F S2x3072x1664 .fp8e4m3) (z : FVec F S2x3072x13 .f32) :
    k0_pay11 c z = shapeCast S2x3072x1664 (fun i => FloatOps.mulf
        (shapeCast S2x3072x13x128 (fun j => FloatOps.extf .bf16 lt8 (c j)) shapeCasts_S2x3072x1664_S2x3072x13x128 i)
        (broadcastTo S2x3072x13x128 (shapeCast S2x3072x13x1 (fun j => FloatOps.truncf .bf16 lt16 (z j)) shapeCasts_S2x3072x13_S2x3072x13x1) broadcasts_S2x3072x13x1_S2x3072x13x128 i))
      shapeCasts_S2x3072x13x128_S2x3072x1664 := rfl

theorem xdeq_at (c : FVec Ideal S2x3072x1664 .fp8e4m3) (z : FVec Ideal S2x3072x13 .f32) (b : Fin 2) (s : Fin 3072) (k : Fin 1664) :
    k0_pay11 c z (ix3 b s k) = c (ix3 b s k) * z (ix3 b s (gof k)) := by
  rw [xdeq_gen, cast4]
  show shapeCast S2x3072x13x128 c shapeCasts_S2x3072x1664_S2x3072x13x128 (ix4 b s (gof k) ⟨k.val % 128, Nat.mod_lt _ (by decide)⟩)
    * broadcastTo S2x3072x13x128 (shapeCast S2x3072x13x1 z shapeCasts_S2x3072x13_S2x3072x13x1) broadcasts_S2x3072x13x1_S2x3072x13x128 (ix4 b s (gof k) ⟨k.val % 128, Nat.mod_lt _ (by decide)⟩) = _
  rw [spread4]
  have h1 : shapeCast S2x3072x13x128 c shapeCasts_S2x3072x1664_S2x3072x13x128 (ix4 b s (gof k) ⟨k.val % 128, Nat.mod_lt _ (by decide)⟩)
      = c (ix3 b s (gk (gof k) ⟨k.val % 128, Nat.mod_lt _ (by decide)⟩)) := by
    pointwise
    rfl
  have h2 : shapeCast S2x3072x13x1 z shapeCasts_S2x3072x13_S2x3072x13x1 (ix4 b s (gof k) 0) = z (ix3 b s (gof k)) := by
    pointwise
  rw [h1, h2, gk_gof]

/-! The weights, whose groups run down the columns. -/

def wmax (y : FVec Ideal S13x128x27648 .f32) : FVec Ideal S13x1x27648 .f32 :=
  shapeCast S13x1x27648 (multiReduction .maximumf [1] S13x27648 y 0xFF800000#32 reduces_S13x128x27648_S13x27648 (.inl rfl) rfl) shapeCasts_S13x27648_S13x1x27648

theorem wexp_gen {F : FTy → Type} [FloatOps F] (y : FVec F S13x128x27648 .f32) (i : S13x1x27648.Idx) : k0_pay8 y i = expOf
    (shapeCast S13x1x27648 (multiReduction .maximumf [1] S13x27648 y 0xFF800000#32 reduces_S13x128x27648_S13x27648 (.inl rfl) rfl) shapeCasts_S13x27648_S13x1x27648 i) := rfl

theorem w6_at (g : Fin 13) (l : Fin 128) (n : Fin 27648) : k0_pay6 v (ix3 g l n) = v (ix2 (gk g l) n) := by
  pointwise [k0_pay6]
  rfl

theorem wmax_at (g : Fin 13) (z : Fin 1) (n : Fin 27648) : wmax (k0_pay7 v) (ix3 g z n) = aw v g n := by
  have h : ∀ l, k0_pay7 v (ix3 g l n) = max (v (ix2 (gk g l) n)) (-(v (ix2 (gk g l) n))) := by
    intro l
    show max (k0_pay6 v (ix3 g l n)) (-(k0_pay6 v (ix3 g l n))) = _
    rw [w6_at]
  unfold aw gmax
  simp only [← h]
  unfold wmax
  generalize k0_pay7 v = y
  pointwise

theorem wexp_at (g : Fin 13) (z : Fin 1) (n : Fin 27648) : k0_pay8 (k0_pay7 v) (ix3 g z n) = refExp (aw v g n) := by
  rw [← expOf_ideal, ← wmax_at v g z n]
  exact wexp_gen (k0_pay7 v) _

theorem wcode_gen {F : FTy → Type} [FloatOps F] (y z : FVec F S13x128x27648 .f32) :
    k0_pay9 y z = shapeCast S1664x27648 (fun i => codeOf (y i) (broadcastTo S13x128x27648 (k0_pay8 z) broadcasts_S13x1x27648_S13x128x27648 i))
      shapeCasts_S13x128x27648_S1664x27648 := rfl

theorem castw {α : Type} (y : S13x128x27648.Idx → α) (k : Fin 1664) (n : Fin 27648) :
    shapeCast S1664x27648 y shapeCasts_S13x128x27648_S1664x27648 (ix2 k n) = y (ix3 (gof k) ⟨k.val % 128, Nat.mod_lt _ (by decide)⟩ n) := by
  pointwise
  rfl

theorem spreadw (y : FVec Ideal S13x1x27648 .f32) (g : Fin 13) (l : Fin 128) (n : Fin 27648) :
    broadcastTo S13x128x27648 y broadcasts_S13x1x27648_S13x128x27648 (ix3 g l n) = y (ix3 g 0 n) := by
  pointwise

theorem wcode_at (k : Fin 1664) (n : Fin 27648) :
    k0_pay9 (k0_pay6 v) (k0_pay7 v) (ix2 k n) = refCode (v (ix2 k n)) (aw v (gof k) n) := by
  rw [wcode_gen, castw, w6_at, spreadw, wexp_at, gk_gof]
  rfl

theorem wscale_gen {F : FTy → Type} [FloatOps F] (y : FVec F S13x128x27648 .f32) :
    k0_pay10 y = shapeCast S13x27648 (fun i => FloatOps.exp2 (k0_pay8 y i)) shapeCasts_S13x1x27648_S13x27648 := rfl

theorem wscale_at (g : Fin 13) (n : Fin 27648) : k0_pay10 (k0_pay7 v) (ix2 g n) = refScale (aw v g n) := by
  have h : ∀ y : FVec Ideal S13x1x27648 .f32, shapeCast S13x27648 y shapeCasts_S13x1x27648_S13x27648 (ix2 g n) = y (ix3 g 0 n) := by
    intro y; pointwise
  rw [wscale_gen, h, wexp_at]; rfl

theorem wdeq_gen {F : FTy → Type} [FloatOps F] (y z : FVec F S13x128x27648 .f32) :
    k0_pay12 y z = fun i => FloatOps.mulf
        (shapeCast S13x128x27648 (fun j => FloatOps.extf .bf16 lt8 (k0_pay9 y z j)) shapeCasts_S1664x27648_S13x128x27648 i)
        (broadcastTo S13x128x27648 (shapeCast S13x1x27648 (fun j => FloatOps.truncf .bf16 lt16 (k0_pay10 z j)) shapeCasts_S13x27648_S13x1x27648) broadcasts_S13x1x27648_S13x128x27648 i) := rfl

theorem wdeq_at (k : Fin 1664) (n : Fin 27648) :
    shapeCast S1664x27648 (k0_pay12 (k0_pay6 v) (k0_pay7 v)) shapeCasts_S13x128x27648_S1664x27648 (ix2 k n)
      = refCode (v (ix2 k n)) (aw v (gof k) n) * refScale (aw v (gof k) n) := by
  rw [castw, wdeq_gen, ← wcode_at, ← wscale_at]
  generalize k0_pay9 (k0_pay6 v) (k0_pay7 v) = c
  generalize k0_pay10 (k0_pay7 v) = z
  show shapeCast S13x128x27648 c shapeCasts_S1664x27648_S13x128x27648 (ix3 (gof k) ⟨k.val % 128, Nat.mod_lt _ (by decide)⟩ n)
    * broadcastTo S13x128x27648 (shapeCast S13x1x27648 z shapeCasts_S13x27648_S13x1x27648) broadcasts_S13x1x27648_S13x128x27648 (ix3 (gof k) ⟨k.val % 128, Nat.mod_lt _ (by decide)⟩ n) = _
  rw [spreadw]
  have h1 : shapeCast S13x128x27648 c shapeCasts_S1664x27648_S13x128x27648 (ix3 (gof k) ⟨k.val % 128, Nat.mod_lt _ (by decide)⟩ n)
      = c (ix2 (gk (gof k) ⟨k.val % 128, Nat.mod_lt _ (by decide)⟩) n) := by
    pointwise
    rfl
  have h2 : shapeCast S13x1x27648 z shapeCasts_S13x27648_S13x1x27648 (ix3 (gof k) 0 n) = z (ix2 (gof k) n) := by
    pointwise
  rw [h1, h2, gk_gof]

theorem y_at (p : FVec Ideal S2x3072x1664 .bf16) (q : FVec Ideal S13x128x27648 .bf16) (b : Fin 2) (s : Fin 3072) (n : Fin 27648) :
    k0_pay1 p q (ix3 b s n) = ∑ k : Fin 1664, p (ix3 b s k) * shapeCast S1664x27648 q shapeCasts_S13x128x27648_S1664x27648 (ix2 k n) := by
  show matmul dot_S2x3072x1664_S1664x27648_S2x3072x27648_2_0_01_1_n_n none p (shapeCast S1664x27648 q shapeCasts_S13x128x27648_S1664x27648)
    (constant (F := Ideal) S2x3072x27648 .f32 0x00000000#32) (ix3 b s n) = _
  generalize shapeCast S1664x27648 q shapeCasts_S13x128x27648_S1664x27648 = r
  pointwise

/-! The five results. -/

theorem G3_at (b : Fin 2) (s : Fin 3072) (k : Fin 1664) : G3 x v (ix3 b s k) = refCode (x (ix3 b s k)) (ax x b s (gof k)) := by
  have h : G3 x v = k0_pay4 x := by
    show k0_pay4 (View.ld x r0_0) = _
    rw [View.ld_unit_zero hz0]
  rw [h, xcode_at]

theorem G4_at (b : Fin 2) (s : Fin 3072) (g : Fin 13) : G4 x v (ix3 b s g) = refScale (ax x b s g) := by
  have h : G4 x v = k0_pay5 x := by
    show k0_pay5 (View.ld x r0_0) = _
    rw [View.ld_unit_zero hz0]
  rw [h, xscale_at]

theorem p15 : k0_pay15 x v = k0_pay6 v := by
  show k0_pay6 (View.ld v r0_1) = _
  rw [View.ld_unit_zero hz1]

theorem p16 : k0_pay16 x v = k0_pay7 v := by
  show k0_pay7 (View.ld v r0_1) = _
  rw [View.ld_unit_zero hz1]

theorem G5_at (k : Fin 1664) (n : Fin 27648) : G5 x v (ix2 k n) = refCode (v (ix2 k n)) (aw v (gof k) n) := by
  show k0_pay9 (k0_pay15 x v) (k0_pay16 x v) (ix2 k n) = _
  rw [p15, p16, wcode_at]

theorem G6_at (g : Fin 13) (n : Fin 27648) : G6 x v (ix2 g n) = refScale (aw v g n) := by
  show k0_pay10 (k0_pay16 x v) (ix2 g n) = _
  rw [p16, wscale_at]

theorem G2_at (b : Fin 2) (s : Fin 3072) (n : Fin 27648) : G2 x v (ix3 b s n)
    = ∑ k : Fin 1664, (refCode (x (ix3 b s k)) (ax x b s (gof k)) * refScale (ax x b s (gof k)))
        * (refCode (v (ix2 k n)) (aw v (gof k) n) * refScale (aw v (gof k) n)) := by
  show k0_pay1 (k0_pay11 (G3 x v) (G4 x v)) (k0_pay12 (k0_pay15 x v) (k0_pay16 x v)) (ix3 b s n) = _
  rw [y_at, p15, p16]
  refine Finset.sum_congr rfl fun k _ => ?_
  rw [xdeq_at, wdeq_at, G3_at, G4_at]

end Cert.ReferenceIdeal.Read
-- ==== Proof.Value.Same.lean ====
/- The kernel's results are the reference's, for arguments whose entries are infinite or no greater in magnitude than the
greatest finite bfloat16 number. -/
module

public import proofs.«01_k».proof.Proof.Value.A2
public import proofs.«01_k».proof.Proof.Value.Ref

@[expose] public section

noncomputable section

namespace Cert.KernelIdeal.Gen

open Idealize.ShloMosaic Idealize.ShloMosaic.TcCoe Cert.Quant Cert.ReferenceIdeal.Read

/-- Row `s` of batch `b` among the 6144 rows. -/
def row (b : Fin 2) (s : Fin 3072) : Fin 6144 := ⟨b.val * 3072 + s.val, by omega⟩

theorem cast_x {α : Type} (y : S2x3072x1664.Idx → α) (b : Fin 2) (s : Fin 3072) (k : Fin 1664) :
    shapeCast S6144x1664 y shapeCasts_S2x3072x1664_S6144x1664 (ix2 (row b s) k) = y (ix3 b s k) := by
  pointwise
  congr 1
  have h0 : (row b s).val / 3072 = b.val := by show (b.val * 3072 + s.val) / 3072 = b.val; omega
  have h1 : (row b s).val % 3072 = s.val := by show (b.val * 3072 + s.val) % 3072 = s.val; omega
  congr 1 <;> apply Fin.ext <;> assumption

theorem cast_y {α : Type} (y : S6144x27648.Idx → α) (b : Fin 2) (s : Fin 3072) (n : Fin 27648) :
    shapeCast S2x3072x27648 y shapeCasts_S6144x27648_S2x3072x27648 (ix3 b s n) = y (ix2 (row b s) n) := by
  pointwise
  rfl

theorem cast_c {α : Type} (y : S6144x1664.Idx → α) (b : Fin 2) (s : Fin 3072) (k : Fin 1664) :
    shapeCast S2x3072x1664 y shapeCasts_S6144x1664_S2x3072x1664 (ix3 b s k) = y (ix2 (row b s) k) := by
  pointwise
  rfl

theorem cast_s {α : Type} (y : S6144x13.Idx → α) (b : Fin 2) (s : Fin 3072) (g : Fin 13) :
    shapeCast S2x3072x13 y shapeCasts_S6144x13_S2x3072x13 (ix3 b s g) = y (ix2 (row b s) g) := by
  pointwise
  rfl

/-- An entry is infinite or no greater in magnitude than the greatest finite bfloat16 number. -/
def Ok (a : EReal) : Prop := max a (-a) ≤ big ∨ max a (-a) = ⊤

variable (x : S2x3072x1664.Idx → EReal) (v : S1664x27648.Idx → EReal)

theorem ca_eq (b : Fin 2) (s : Fin 3072) (g : Fin 13) : ca (xf x) (row b s) g = ax x b s g * kappa := by
  unfold ca ax
  congr 2
  funext l
  exact cast_x x b s (gk g l)

theorem cv_eq (g : Fin 13) (n : Fin 27648) : cv v g n = aw v g n * kappa := rfl

variable (hx : ∀ i, Ok (x i)) (hv : ∀ i, Ok (v i))

include hx in
theorem ax_in (b : Fin 2) (s : Fin 3072) (g : Fin 13) : InRange (ax x b s g) := inRange_gmax _ fun l => hx _
include hv in
theorem aw_in (g : Fin 13) (n : Fin 27648) : InRange (aw v g n) := inRange_gmax _ fun l => hv _

include hx in
theorem XC_at (b : Fin 2) (s : Fin 3072) (k : Fin 1664) :
    XC (xf x) (ix2 (row b s) k) = refCode (x (ix3 b s k)) (ax x b s (gof k)) := by
  show code (F := Ideal) (xf x (ix2 (row b s) k)) (ca (xf x) (row b s) (gof k)) = _
  rw [ca_eq, code_eq _ _ (ax_in x hx b s _)]
  exact congrArg (refCode · _) (cast_x x b s k)

include hx in
theorem XS_at (b : Fin 2) (s : Fin 3072) (g : Fin 13) : XS (xf x) (ix2 (row b s) g) = refScale (ax x b s g) := by
  show scale (F := Ideal) (ca (xf x) (row b s) g) = _
  rw [ca_eq, scale_eq _ (ax_in x hx b s _)]

include hx in
theorem XT_at (b : Fin 2) (s : Fin 3072) (l : Fin 128) : XT (xf x) (ix2 (row b s) l) = refScale (ax x b s 12) := by
  show scale (F := Ideal) (ca (xf x) (row b s) 12) = _
  rw [ca_eq, scale_eq _ (ax_in x hx b s _)]

include hx in
theorem XD_at (b : Fin 2) (s : Fin 3072) (k : Fin 1536) (k' : Fin 1664) (h : k' = ⟨k.val, by omega⟩) :
    XD (xf x) (ix2 (row b s) k) = refCode (x (ix3 b s k')) (ax x b s (gof k')) * refScale (ax x b s (gof k')) := by
  subst h
  show deq (F := Ideal) (xf x (ix2 (row b s) ⟨k.val, _⟩)) (ca (xf x) (row b s) (gof ⟨k.val, _⟩)) = _
  rw [ca_eq, deq_eq _ _ (ax_in x hx b s _)]
  exact congrArg (refCode · _ * _) (cast_x x b s _)

include hv in
theorem wcode_at (k : Fin 1664) (n : Fin 27648) (g : Fin 13) (hg : gof k = g) :
    code (F := Ideal) (v (ix2 k n)) (cv v g n) = refCode (v (ix2 k n)) (aw v (gof k) n) := by
  subst hg
  rw [cv_eq, code_eq _ _ (aw_in v hv _ n)]

include hv in
theorem wdeq_at' (k : Fin 1664) (n : Fin 27648) :
    deq (F := Ideal) (v (ix2 k n)) (cv v (gof k) n) = refCode (v (ix2 k n)) (aw v (gof k) n) * refScale (aw v (gof k) n) := by
  rw [cv_eq, deq_eq _ _ (aw_in v hv _ n)]

include hv in
theorem wscale_at (g : Fin 13) (n : Fin 27648) : scale (F := Ideal) (cv v g n) = refScale (aw v g n) := by
  rw [cv_eq, scale_eq _ (aw_in v hv _ n)]

include hx in
theorem same1 : K1 x = G3 (F := Ideal) x v := by
  funext i
  rw [eq_ix3 i]
  refine (cast_c (XC (xf x)) _ _ _).trans ((XC_at x hx _ _ _).trans ?_)
  exact (G3_at x v _ _ _).symm

include hx in
theorem same2 : K2 x = G4 (F := Ideal) x v := by
  funext i
  rw [eq_ix3 i]
  refine (cast_s (XS (xf x)) _ _ _).trans ((XS_at x hx _ _ _).trans ?_)
  exact (G4_at x v _ _ _).symm

include hv in
theorem same3 : VC v = G5 (F := Ideal) x v := by
  funext i
  rw [eq_ix2 i]
  exact (wcode_at v hv _ _ _ rfl).trans (G5_at x v _ _).symm

include hv in
theorem same4 : VS v = G6 (F := Ideal) x v := by
  funext i
  rw [eq_ix2 i]
  exact (wscale_at v hv _ _).trans (G6_at x v _ _).symm

include hx hv in
theorem same0 : K0 x v = G2 (F := Ideal) x v := by
  funext i
  obtain ⟨b, s, n, rfl⟩ : ∃ (b : Fin 2) (s : Fin 3072) (n : Fin 27648), i = ix3 b s n := ⟨i 0, i 1, i 2, eq_ix3 i⟩
  refine (cast_y (YA v (XD (xf x)) (XC (xf x)) (XT (xf x))) b s n).trans ?_
  rw [G2_at]
  rw [← dot_cut (fun k => refCode (x (ix3 b s k)) (ax x b s (gof k))) (fun k => refCode (v (ix2 k n)) (aw v (gof k) n))
    (fun g => refScale (ax x b s g)) (fun g => refScale (aw v g n)) (fun k => refCode_real _ _) (fun k => refCode_real _ _)
    (fun g => refScale_real _ (ax_in x hx b s g)) (fun g => refScale_real _ (aw_in v hv g n))]
  refine congrArg₂ (· + ·) (Finset.sum_congr rfl fun k _ => congrArg₂ (· * ·) ?_ ?_)
    (congrArg₂ (· * ·) (Finset.sum_congr rfl fun l _ => congrArg₂ (· * ·) ?_ ?_) (congrArg₂ (· * ·) ?_ ?_))
  · exact XD_at x hx b s k _ rfl
  · exact wdeq_at' v hv _ n
  · exact XC_at x hx b s (gk 12 l)
  · exact wcode_at v hv (gk 12 l) n 12 (gof_gk 12 l)
  · exact XT_at x hx b s _
  · exact wscale_at v hv 12 n

end Cert.KernelIdeal.Gen
-- ==== Proof.Value.Pre.lean ====
/- The precondition, entry by entry. -/
module

public import proofs.«01_k».proof.Pre_in_range
public import proofs.«01_k».proof.Proof.Value.Same

@[expose] public section

noncomputable section

namespace Cert.Pre_in_range.Proof

open Idealize.ShloMosaic Cert.Quant
open Cert.KernelIdeal.Gen (Ok)

instance facts : Cert.Pre_in_range.Facts where
  bcast_S_S2x3072x1664 := by decide
  bcast_S_S1664x27648 := by decide

theorem inf_eq : Ideal.ofBits .bf16 0x7F80#16 = ⊤ := by
  show Ideal.ieee 8 7 (0x7F80#16) = _
  simp only [Ideal.ieee]
  rw [show ((0x7F80#16).extractLsb' (8 + 7) 1 == 1#1) = false by decide,
    show ((0x7F80#16).extractLsb' 7 8).toNat = 255 by decide,
    show ((0x7F80#16).extractLsb' 0 7).toNat = 0 by decide]
  simp

theorem ok_of (a : EReal) (h : IntOp.ori (Ideal.cmp .ole (max a (-a)) big) (Ideal.cmp .oeq (max a (-a)) (Ideal.ofBits .bf16 0x7F80#16)) = 1#1) :
    Ok a := by
  rw [inf_eq] at h
  unfold Ok
  by_cases h1 : max a (-a) ≤ big
  · exact Or.inl h1
  · by_cases h2 : max a (-a) = ⊤
    · exact Or.inr h2
    · exfalso
      simp only [Ideal.cmp, h1, h2, decide_false] at h
      exact absurd h (by decide)

theorem ok0 (x : FVec Ideal S2x3072x1664 .bf16) (v : FVec Ideal S1664x27648 .bf16)
    (h : (Cert.Pre_in_range.fn (F := Ideal) x v).1 = fun _ => 1#1) (i : S2x3072x1664.Idx) : Ok (x i) :=
  ok_of (x i) (congrFun h i)

theorem ok1 (x : FVec Ideal S2x3072x1664 .bf16) (v : FVec Ideal S1664x27648 .bf16)
    (h : (Cert.Pre_in_range.fn (F := Ideal) x v).2 = fun _ => 1#1) (i : S1664x27648.Idx) : Ok (v i) :=
  ok_of (v i) (congrFun h i)

end Cert.Pre_in_range.Proof
-- ==== Proof.lean ====
/- The claims: the three programs run and leave their arguments and every semaphore as they were, the idealization changed no
operation, and the kernel's five results are the reference's, as extended reals, element by element. -/
module

public import proofs.«01_k».proof.Defs
public import proofs.«01_k».proof.Proof.Kernel.Run
public import proofs.«01_k».proof.Proof.KernelIdeal.Run
public import proofs.«01_k».proof.Proof.Gen.ReferenceIdeal.Frame
public import proofs.«01_k».proof.Proof.Value.Pre

@[expose] public section

noncomputable section

namespace Cert.Proof

open Idealize.ShloMosaic Idealize.SL.Sem

/-- The kernel and the reference end with equal results: both end at the reference's closed forms of the kernel's arguments. -/
theorem algebraic : Cert.algebraic_KernelIdeal_ReferenceIdeal_pre_in_range := by
  intro m g m' g' hpre hargs
  have hx : ∀ (c : Dev Cert.KernelIdeal.nD) i, Cert.KernelIdeal.Gen.Ok (m ((c.tc : Thread Cert.KernelIdeal.nD Cert.KernelIdeal.τ).loc Cert.KernelIdeal.main_arg0) i) :=
    fun c i => Cert.Pre_in_range.Proof.ok0 _ _ (hpre c).1 i
  have hv : ∀ (c : Dev Cert.KernelIdeal.nD) i, Cert.KernelIdeal.Gen.Ok (m ((c.tc : Thread Cert.KernelIdeal.nD Cert.KernelIdeal.τ).loc Cert.KernelIdeal.main_arg1) i) :=
    fun c i => Cert.Pre_in_range.Proof.ok1 _ _ (hpre c).2 i
  refine ⟨fun c : Dev Cert.KernelIdeal.nD => Cert.ReferenceIdeal.Read.G2 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c : Dev Cert.KernelIdeal.nD => Cert.ReferenceIdeal.Read.G3 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c : Dev Cert.KernelIdeal.nD => Cert.ReferenceIdeal.Read.G4 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c : Dev Cert.KernelIdeal.nD => Cert.ReferenceIdeal.Read.G5 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c : Dev Cert.KernelIdeal.nD => Cert.ReferenceIdeal.Read.G6 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run (Cert.KernelIdeal.defs (F := Ideal)) _ _).mono (fun r h c => ?_) (Cert.KernelIdeal.Gen.run_value m g)
    obtain ⟨h0, h1, h2, h3, h4, h5, h6⟩ := h c
    exact ⟨h0.trans (Cert.KernelIdeal.Gen.same0 _ _ (hx c) (hv c)), h1.trans (Cert.KernelIdeal.Gen.same1 _ _ (hx c)),
      h2.trans (Cert.KernelIdeal.Gen.same2 _ _ (hx c)), h3.trans (Cert.KernelIdeal.Gen.same3 _ _ (hv c)),
      h4.trans (Cert.KernelIdeal.Gen.same4 _ _ (hv c)), h5, h6⟩
  · refine (θ_run (Cert.ReferenceIdeal.defs (F := Ideal)) _ _).mono (fun r h c => ?_) (Cert.ReferenceIdeal.Read.run m' g')
    have k := h c
    rw [(hargs c).1, (hargs c).2] at k
    rw [(hargs c).1, (hargs c).2]
    exact k

theorem claim : Cert.Claim :=
  ⟨Cert.Kernel.Gen.facts, Cert.KernelIdeal.Gen.facts, Cert.ReferenceIdeal.Gen.facts, Cert.Pre_in_range.Proof.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial,
    algebraic⟩

end Cert.Proof

end
